-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_affine [hPre_plain_affine : Cert.Pre_plain_affine.Facts] (m : (ℓ : Loc Cert.KernelIdeal.nD Cert.KernelIdeal.τ Cert.KernelIdeal.sig) → Buf (Elt Ideal) ℓ) : Prop :=
  ∀ c : Dev Cert.KernelIdeal.nD,
    (Cert.Pre_plain_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_plain_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_plain_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_plain_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_plain_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_plain_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_plain_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_affine [hPre_plain_affine : Cert.Pre_plain_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_plain_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_plain_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_plain_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_plain_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_plain_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_plain_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_plain_affine [hKernelIdeal : Cert.KernelIdeal.Facts] [hPre_plain_affine : Cert.Pre_plain_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_plain_affine [hReferenceIdeal : Cert.ReferenceIdeal.Facts] [hPre_plain_affine : Cert.Pre_plain_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_plain_affine [hKernelIdeal : Cert.KernelIdeal.Facts] [hReferenceIdeal : Cert.ReferenceIdeal.Facts] [hPre_plain_affine : Cert.Pre_plain_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_plain_affine : Cert.Pre_plain_affine.Facts),
    quiescent_Kernel (hKernel := hKernel)
    ∧ quiescent_KernelIdeal (hKernelIdeal := hKernelIdeal)
    ∧ quiescent_KernelIdeal_pre_plain_affine (hKernelIdeal := hKernelIdeal) (hPre_plain_affine := hPre_plain_affine)
    ∧ quiescent_ReferenceIdeal (hReferenceIdeal := hReferenceIdeal)
    ∧ quiescent_ReferenceIdeal_pre_plain_affine (hReferenceIdeal := hReferenceIdeal) (hPre_plain_affine := hPre_plain_affine)
    ∧ preserves_Kernel_KernelIdeal
    ∧ algebraic_KernelIdeal_ReferenceIdeal_pre_plain_affine (hKernelIdeal := hKernelIdeal) (hReferenceIdeal := hReferenceIdeal) (hPre_plain_affine := hPre_plain_affine)
-- ==== Pre_plain_affine.lean ====
abbrev S4x4096x1024 : Shape := ⟨3, ![4, 4096, 1024]⟩
abbrev S4x1x1x4096 : Shape := ⟨4, ![4, 1, 1, 4096]⟩
abbrev S4x4096 : Shape := ⟨2, ![4, 4096]⟩
abbrev S4x16x4096x64 : Shape := ⟨4, ![4, 16, 4096, 64]⟩
abbrev S4x4096x1 : Shape := ⟨3, ![4, 4096, 1]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S_ : Shape := ⟨0, ![]⟩

class Facts : Prop where
  bcast_S_S1024 : S_.BroadcastsInDim S1024 (![] : Fin 0 → Fin S1024.rank)
  bcast_S_S2 : S_.BroadcastsInDim S2 (![] : Fin 0 → Fin S2.rank)
  bcast_S_S2x1024 : S_.BroadcastsInDim S2x1024 (![] : Fin 0 → Fin S2x1024.rank)

variable [Facts]

def fn {F : FTy → Type} [FloatOps F] (main_arg0 : FVec F S4x4096x1024 .f32) (main_arg1 : FVec F S4x1x1x4096 .f32) (main_arg2 : FVec F S4x4096 .f32) (main_arg3 : FVec F S4x16x4096x64 .f32) (main_arg4 : FVec F S4x4096x1 .f32) (main_arg5 : FVec F S1024 .f32) (main_arg6 : FVec F S1024 .f32) (main_arg7 : FVec F S1024x1024 .f32) (main_arg8 : FVec F S1024 .f32) (main_arg9 : FVec F S1024 .f32) (main_arg10 : FVec F S1024 .f32) (main_arg11 : FVec F S2x1024 .f32) (main_arg12 : FVec F S2 .f32) : IVec S1024 1 × IVec S1024 1 × IVec S1024 1 × IVec S1024 1 × IVec S1024 1 × IVec S2 1 × IVec S2x1024 1 :=
  let main_cst : FVec F S_ .f32 := constant S_ .f32 0x3F800000#32
  let main_v0 : FVec F S1024 .f32 := broadcastInDim S1024 ![] bcast_S_S1024 main_cst
  let main_v1 : IVec S1024 1 := cmpf .oeq main_arg5 main_v0
  let main_cst_0 : FVec F S_ .f32 := constant S_ .f32 0x00000000#32
  let main_v2 : FVec F S1024 .f32 := broadcastInDim S1024 ![] bcast_S_S1024 main_cst_0
  let main_v3 : IVec S1024 1 := cmpf .oeq main_arg6 main_v2
  let main_cst_1 : FVec F S_ .f32 := constant S_ .f32 0x00000000#32
  let main_v4 : FVec F S1024 .f32 := broadcastInDim S1024 ![] bcast_S_S1024 main_cst_1
  let main_v5 : IVec S1024 1 := cmpf .oeq main_arg8 main_v4
  let main_cst_2 : FVec F S_ .f32 := constant S_ .f32 0x3F800000#32
  let main_v6 : FVec F S1024 .f32 := broadcastInDim S1024 ![] bcast_S_S1024 main_cst_2
  let main_v7 : IVec S1024 1 := cmpf .oeq main_arg9 main_v6
  let main_cst_3 : FVec F S_ .f32 := constant S_ .f32 0x00000000#32
  let main_v8 : FVec F S1024 .f32 := broadcastInDim S1024 ![] bcast_S_S1024 main_cst_3
  let main_v9 : IVec S1024 1 := cmpf .oeq main_arg10 main_v8
  let main_cst_4 : FVec F S_ .f32 := constant S_ .f32 0x00000000#32
  let main_v10 : FVec F S2 .f32 := broadcastInDim S2 ![] bcast_S_S2 main_cst_4
  let main_v11 : IVec S2 1 := cmpf .oeq main_arg12 main_v10
  let main_v12 : FVec F S2x1024 .f32 := Host.absf main_arg11
  let main_cst_5 : FVec F S_ .f32 := constant S_ .f32 0x7F800000#32
  let main_v13 : FVec F S2x1024 .f32 := broadcastInDim S2x1024 ![] bcast_S_S2x1024 main_cst_5
  let main_v14 : IVec S2x1024 1 := cmpf .olt main_v12 main_v13
  (main_v1, main_v3, main_v5, main_v7, main_v9, main_v11, main_v14)
-- ==== Kernel.lean ====
abbrev S4x4096x1024 : Shape := ⟨3, ![4, 4096, 1024]⟩
abbrev S4x1x1x4096 : Shape := ⟨4, ![4, 1, 1, 4096]⟩
abbrev S4x4096 : Shape := ⟨2, ![4, 4096]⟩
abbrev S4x16x4096x64 : Shape := ⟨4, ![4, 16, 4096, 64]⟩
abbrev S4x4096x1 : Shape := ⟨3, ![4, 4096, 1]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S16384x1024 : Shape := ⟨2, ![16384, 1024]⟩
abbrev S16384x1 : Shape := ⟨2, ![16384, 1]⟩
abbrev S512x1 : Shape := ⟨2, ![512, 1]⟩
abbrev S4x512x1024 : Shape := ⟨3, ![4, 512, 1024]⟩
abbrev S4x2 : Shape := ⟨2, ![4, 2]⟩
abbrev S1x1 : Shape := ⟨2, ![1, 1]⟩
abbrev S_ : Shape := ⟨0, ![]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S512 : Shape := ⟨1, ![512]⟩
abbrev S512x2 : Shape := ⟨2, ![512, 2]⟩

abbrev nBuf : Space → Nat
  | .hbm => 18
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S4x1x1x4096, .f32⟩
  | .hbm, ⟨2, _⟩ => ⟨S4x4096, .f32⟩
  | .hbm, ⟨3, _⟩ => ⟨S4x16x4096x64, .f32⟩
  | .hbm, ⟨4, _⟩ => ⟨S4x4096x1, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2x1024, .f32⟩
  | .hbm, ⟨12, _⟩ => ⟨S2, .f32⟩
  | .hbm, ⟨13, _⟩ => ⟨S16384x1024, .f32⟩
  | .hbm, ⟨14, _⟩ => ⟨S16384x1, .f32⟩
  | .hbm, ⟨15, _⟩ => ⟨S4x4096, .f32⟩
  | .hbm, ⟨16, _⟩ => ⟨S_, .f32⟩
  | .hbm, ⟨17, _⟩ => ⟨S4x4096x1, .f32⟩
  | .local _ .vmem, ⟨0, _⟩ => ⟨S1024x1024, .f32⟩
  | .local _ .vmem, ⟨1, _⟩ => ⟨S2x1024, .f32⟩
  | .local _ .vmem, ⟨2, _⟩ => ⟨S512x1, .f32⟩
  | .local _ .vmem, ⟨3, _⟩ => ⟨S512x1, .f32⟩
  | .local _ .vmem, ⟨4, _⟩ => ⟨S4x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c3_i32 : BitVec 32 := 3#32
  let v5 : BitVec 32 := Scalar.addi arg0 c3_i32
  let c32_i32 : BitVec 32 := 32#32
  let v6 : BitVec 1 := Scalar.cmpi .slt v5 c32_i32
  let v7 : BitVec 32 := Scalar.extui v6
  let c0_i32_4 : BitVec 32 := 0#32
  let v8 : BitVec 1 := Scalar.cmpi .ne v7 c0_i32_4
  v8

def k0_off1 (i : grid0.Coords) : Fin 2 → Nat :=
  let arg0 : BitVec 32 := BitVec.ofNat 32 (i 0).val
  let c3_i32_42 : BitVec 32 := 3#32
  let v109 : BitVec 32 := Scalar.addi arg0 c3_i32_42
  let c4_i32_43 : BitVec 32 := 4#32
  let v110 : BitVec 32 := Scalar.remsi v109 c4_i32_43
  let c0_i32_48 : BitVec 32 := 0#32
  ![v110.toNat, 0]
def k0_off2 (i : grid0.Coords) : Fin 3 → Nat :=
  let arg0 : BitVec 32 := BitVec.ofNat 32 (i 0).val
  let c3_i32_42 : BitVec 32 := 3#32
  let v109 : BitVec 32 := Scalar.addi arg0 c3_i32_42
  let c4_i32_43 : BitVec 32 := 4#32
  let v110 : BitVec 32 := Scalar.remsi v109 c4_i32_43
  let c0_i32_49 : BitVec 32 := 0#32
  let c0_i32_50 : BitVec 32 := 0#32
  ![v110.toNat, 0, 0]
def k0_off3 (i : grid0.Coords) (c0_i32_45 : BitVec 32) : Fin 2 → Nat :=
  let arg0 : BitVec 32 := BitVec.ofNat 32 (i 0).val
  let c3_i32_42 : BitVec 32 := 3#32
  let v109 : BitVec 32 := Scalar.addi arg0 c3_i32_42
  let c512_i32_44 : BitVec 32 := 512#32
  let v111 : BitVec 32 := Scalar.muli v109 c512_i32_44
  let v112 : BitVec 32 := Scalar.addi v111 c0_i32_45
  let c0_i32_51 : BitVec 32 := 0#32
  ![v112.toNat, 0]
def k0_off4 (i : grid0.Coords) : Fin 2 → Nat :=
  let arg0 : BitVec 32 := BitVec.ofNat 32 (i 0).val
  let c3_i32_42 : BitVec 32 := 3#32
  let v109 : BitVec 32 := Scalar.addi arg0 c3_i32_42
  let c4_i32_43 : BitVec 32 := 4#32
  let v110 : BitVec 32 := Scalar.remsi v109 c4_i32_43
  let c1_i32_52 : BitVec 32 := 1#32
  ![v110.toNat, 1]
def k0_off5 (i : grid0.Coords) : Fin 3 → Nat :=
  let arg0 : BitVec 32 := BitVec.ofNat 32 (i 0).val
  let c3_i32_42 : BitVec 32 := 3#32
  let v109 : BitVec 32 := Scalar.addi arg0 c3_i32_42
  let c4_i32_43 : BitVec 32 := 4#32
  let v110 : BitVec 32 := Scalar.remsi v109 c4_i32_43
  let c256_i32_53 : BitVec 32 := 256#32
  let c0_i32_54 : BitVec 32 := 0#32
  ![v110.toNat, 256, 0]
def k0_off6 (i : grid0.Coords) : Fin 2 → Nat :=
  let arg0 : BitVec 32 := BitVec.ofNat 32 (i 0).val
  let c4_i32 : BitVec 32 := 4#32
  let v9 : BitVec 32 := Scalar.remsi arg0 c4_i32
  let c0_i32_7 : BitVec 32 := 0#32
  ![v9.toNat, 0]
def k0_off7 (i : grid0.Coords) : Fin 3 → Nat :=
  let arg0 : BitVec 32 := BitVec.ofNat 32 (i 0).val
  let c4_i32 : BitVec 32 := 4#32
  let v9 : BitVec 32 := Scalar.remsi arg0 c4_i32
  let c0_i32_8 : BitVec 32 := 0#32
  let c0_i32_9 : BitVec 32 := 0#32
  ![v9.toNat, 0, 0]
def k0_off8 (i : grid0.Coords) (c0_i32_5 : BitVec 32) : Fin 2 → Nat :=
  let arg0 : BitVec 32 := BitVec.ofNat 32 (i 0).val
  let c512_i32 : BitVec 32 := 512#32
  let v10 : BitVec 32 := Scalar.muli arg0 c512_i32
  let v11 : BitVec 32 := Scalar.addi v10 c0_i32_5
  let c0_i32_10 : BitVec 32 := 0#32
  ![v11.toNat, 0]
def k0_off9 (i : grid0.Coords) : Fin 2 → Nat :=
  let arg0 : BitVec 32 := BitVec.ofNat 32 (i 0).val
  let c4_i32 : BitVec 32 := 4#32
  let v9 : BitVec 32 := Scalar.remsi arg0 c4_i32
  let c1_i32 : BitVec 32 := 1#32
  ![v9.toNat, 1]
def k0_off10 (i : grid0.Coords) : Fin 3 → Nat :=
  let arg0 : BitVec 32 := BitVec.ofNat 32 (i 0).val
  let c4_i32 : BitVec 32 := 4#32
  let v9 : BitVec 32 := Scalar.remsi arg0 c4_i32
  let c256_i32_11 : BitVec 32 := 256#32
  let c0_i32_12 : BitVec 32 := 0#32
  ![v9.toNat, 256, 0]
def k0_off11 (i : grid0.Coords) : Fin 3 → Nat :=
  let arg0 : BitVec 32 := BitVec.ofNat 32 (i 0).val
  let c4_i32 : BitVec 32 := 4#32
  let v9 : BitVec 32 := Scalar.remsi arg0 c4_i32
  let v24 : Index := Scalar.indexCast v9
  let c0_14 : Index := 0#32
  let c0_15 : Index := 0#32
  ![v24.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x4096x1024 : Shape := ⟨3, ![4, 4096, 1024]⟩
abbrev S4x1x1x4096 : Shape := ⟨4, ![4, 1, 1, 4096]⟩
abbrev S4x4096 : Shape := ⟨2, ![4, 4096]⟩
abbrev S4x16x4096x64 : Shape := ⟨4, ![4, 16, 4096, 64]⟩
abbrev S4x4096x1 : Shape := ⟨3, ![4, 4096, 1]⟩
abbrev S1024 : Shape := ⟨1, ![1024]⟩
abbrev S1024x1024 : Shape := ⟨2, ![1024, 1024]⟩
abbrev S2x1024 : Shape := ⟨2, ![2, 1024]⟩
abbrev S2 : Shape := ⟨1, ![2]⟩
abbrev S_ : Shape := ⟨0, ![]⟩
abbrev S1x1x1024 : Shape := ⟨3, ![1, 1, 1024]⟩
abbrev S1024x2 : Shape := ⟨2, ![1024, 2]⟩
abbrev S4x4096x2 : Shape := ⟨3, ![4, 4096, 2]⟩
abbrev S1x1x2 : Shape := ⟨3, ![1, 1, 2]⟩
abbrev S1 : Shape := ⟨1, ![1]⟩
abbrev S4 : Shape := ⟨1, ![4]⟩

abbrev nBuf : Space → Nat
  | .hbm => 155
  | .vmem => 0
  | .smem => 0
  | _ => 0

abbrev hbmTy0_0 (i : Nat) : BufTy := match i % 128 with
  | 0 => ⟨S4x4096x1024, .f32⟩
  | 1 => ⟨S4x1x1x4096, .f32⟩
  | 2 => ⟨S4x4096, .f32⟩
  | 3 => ⟨S4x16x4096x64, .f32⟩
  | 4 => ⟨S4x4096x1, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024, .f32⟩
  | 11 => ⟨S2x1024, .f32⟩
  | 12 => ⟨S2, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .i32⟩
  | 20 => ⟨S_, .f32⟩
  | 21 => ⟨S4x4096, .f32⟩
  | 22 => ⟨S4x4096x1, .f32⟩
  | 23 => ⟨S_, .f32⟩
  | 24 => ⟨S4x4096x1, .f32⟩
  | 25 => ⟨S4x4096x1, .f32⟩
  | 26 => ⟨S4x4096x1024, .f32⟩
  | 27 => ⟨S4x4096x1024, .f32⟩
  | 28 => ⟨S4x4096x1024, .f32⟩
  | 29 => ⟨S_, .f32⟩
  | 30 => ⟨S_, .f32⟩
  | 31 => ⟨S_, .f32⟩
  | 32 => ⟨S_, .f32⟩
  | 33 => ⟨S4x4096, .f32⟩
  | 34 => ⟨S4x4096x1, .f32⟩
  | 35 => ⟨S4x4096x1, .f32⟩
  | 36 => ⟨S4x4096x1, .f32⟩
  | 37 => ⟨S_, .f32⟩
  | 38 => ⟨S_, .i1⟩
  | 39 => ⟨S_, .f32⟩
  | 40 => ⟨S_, .f32⟩
  | 41 => ⟨S4x4096x1, .f32⟩
  | 42 => ⟨S4x4096x1, .f32⟩
  | 43 => ⟨S4x4096x1024, .f32⟩
  | 44 => ⟨S4x4096x1024, .f32⟩
  | 45 => ⟨S_, .f32⟩
  | 46 => ⟨S4x4096x1, .f32⟩
  | 47 => ⟨S4x4096x1, .f32⟩
  | 48 => ⟨S4x4096x1, .f32⟩
  | 49 => ⟨S4x4096x1024, .f32⟩
  | 50 => ⟨S4x4096x1024, .f32⟩
  | 51 => ⟨S1x1x1024, .f32⟩
  | 52 => ⟨S4x4096x1024, .f32⟩
  | 53 => ⟨S4x4096x1024, .f32⟩
  | 54 => ⟨S1x1x1024, .f32⟩
  | 55 => ⟨S4x4096x1024, .f32⟩
  | 56 => ⟨S4x4096x1024, .f32⟩
  | 57 => ⟨S1024x1024, .f32⟩
  | 58 => ⟨S4x4096x1024, .f32⟩
  | 59 => ⟨S1x1x1024, .f32⟩
  | 60 => ⟨S4x4096x1024, .f32⟩
  | 61 => ⟨S4x4096x1024, .f32⟩
  | 62 => ⟨S_, .f32⟩
  | 63 => ⟨S4x4096, .f32⟩
  | 64 => ⟨S4x4096x1, .f32⟩
  | 65 => ⟨S_, .f32⟩
  | 66 => ⟨S4x4096x1, .f32⟩
  | 67 => ⟨S4x4096x1, .f32⟩
  | 68 => ⟨S_, .i32⟩
  | 69 => ⟨S_, .f32⟩
  | 70 => ⟨S4x4096, .f32⟩
  | 71 => ⟨S4x4096x1, .f32⟩
  | 72 => ⟨S_, .f32⟩
  | 73 => ⟨S4x4096x1, .f32⟩
  | 74 => ⟨S4x4096x1, .f32⟩
  | 75 => ⟨S4x4096x1024, .f32⟩
  | 76 => ⟨S4x4096x1024, .f32⟩
  | 77 => ⟨S4x4096x1024, .f32⟩
  | 78 => ⟨S_, .f32⟩
  | 79 => ⟨S_, .f32⟩
  | 80 => ⟨S_, .f32⟩
  | 81 => ⟨S_, .f32⟩
  | 82 => ⟨S4x4096, .f32⟩
  | 83 => ⟨S4x4096x1, .f32⟩
  | 84 => ⟨S4x4096x1, .f32⟩
  | 85 => ⟨S4x4096x1, .f32⟩
  | 86 => ⟨S_, .f32⟩
  | 87 => ⟨S_, .i1⟩
  | 88 => ⟨S_, .f32⟩
  | 89 => ⟨S_, .f32⟩
  | 90 => ⟨S4x4096x1, .f32⟩
  | 91 => ⟨S4x4096x1, .f32⟩
  | 92 => ⟨S4x4096x1024, .f32⟩
  | 93 => ⟨S4x4096x1024, .f32⟩
  | 94 => ⟨S_, .f32⟩
  | 95 => ⟨S4x4096x1, .f32⟩
  | 96 => ⟨S4x4096x1, .f32⟩
  | 97 => ⟨S4x4096x1, .f32⟩
  | 98 => ⟨S4x4096x1024, .f32⟩
  | 99 => ⟨S4x4096x1024, .f32⟩
  | 100 => ⟨S1x1x1024, .f32⟩
  | 101 => ⟨S4x4096x1024, .f32⟩
  | 102 => ⟨S4x4096x1024, .f32⟩
  | 103 => ⟨S1x1x1024, .f32⟩
  | 104 => ⟨S4x4096x1024, .f32⟩
  | 105 => ⟨S4x4096x1024, .f32⟩
  | 106 => ⟨S_, .f32⟩
  | 107 => ⟨S4x4096x1024, .f32⟩
  | 108 => ⟨S4x4096x1024, .f32⟩
  | 109 => ⟨S4x4096x1024, .f32⟩
  | 110 => ⟨S_, .f32⟩
  | 111 => ⟨S4x4096x1024, .f32⟩
  | 112 => ⟨S4x4096x1024, .f32⟩
  | 113 => ⟨S4x4096x1024, .f32⟩
  | 114 => ⟨S4x4096x1024, .f32⟩
  | 115 => ⟨S1024x2, .f32⟩
  | 116 => ⟨S4x4096x2, .f32⟩
  | 117 => ⟨S1x1x2, .f32⟩
  | 118 => ⟨S4x4096x2, .f32⟩
  | 119 => ⟨S4x4096x2, .f32⟩
  | 120 => ⟨S_, .f32⟩
  | 121 => ⟨S4x4096x2, .f32⟩
  | 122 => ⟨S_, .i32⟩
  | 123 => ⟨S1, .i32⟩
  | 124 => ⟨S_, .i32⟩
  | 125 => ⟨S1, .i32⟩
  | 126 => ⟨S2, .i32⟩
  | 127 => ⟨S_, .f32⟩
  | _ => ⟨S4x4096x1024, .f32⟩

abbrev hbmTy0_1 (i : Nat) : BufTy := match i % 128 with
  | 0 => ⟨S4, .f32⟩
  | 1 => ⟨S4x4096x2, .f32⟩
  | 2 => ⟨S4x4096x2, .f32⟩
  | 3 => ⟨S_, .f32⟩
  | 4 => ⟨S4x4096, .f32⟩
  | 5 => ⟨S_, .f32⟩
  | 6 => ⟨S4x4096, .f32⟩
  | 7 => ⟨S4x4096, .f32⟩
  | 8 => ⟨S4x4096x1, .f32⟩
  | 9 => ⟨S4x4096x2, .f32⟩
  | 10 => ⟨S4x4096x2, .f32⟩
  | 11 => ⟨S4x4096x2, .f32⟩
  | 12 => ⟨S_, .f32⟩
  | 13 => ⟨S4x4096, .f32⟩
  | 14 => ⟨S4x4096x1, .f32⟩
  | 15 => ⟨S4x4096x2, .f32⟩
  | 16 => ⟨S4x4096x2, .f32⟩
  | 17 => ⟨S4x4096x1, .f32⟩
  | 18 => ⟨S4x4096, .f32⟩
  | 19 => ⟨S_, .f32⟩
  | 20 => ⟨S4x4096, .f32⟩
  | 21 => ⟨S4x4096, .i1⟩
  | 22 => ⟨S4x4096, .f32⟩
  | 23 => ⟨S4x4096, .f32⟩
  | 24 => ⟨S4x4096, .f32⟩
  | 25 => ⟨S_, .f32⟩
  | 26 => ⟨S4x4096x1, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_cst_1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_2 : Ref sig .tc := ⟨.hbm, 62, rfl⟩
abbrev main_v23 : Ref sig .tc := ⟨.hbm, 63, rfl⟩
abbrev main_v24 : Ref sig .tc := ⟨.hbm, 64, rfl⟩
abbrev main_cst_3 : Ref sig .tc := ⟨.hbm, 65, rfl⟩
abbrev main_v25 : Ref sig .tc := ⟨.hbm, 66, rfl⟩
abbrev main_v26 : Ref sig .tc := ⟨.hbm, 67, rfl⟩
abbrev main_c_4 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_cst_1 : Ref sig .tc := ⟨.hbm, 79, rfl⟩
abbrev main_call1_v8 : Ref sig .tc := ⟨.hbm, 80, rfl⟩
abbrev main_call1_cst_2 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_cst_3 : Ref sig .tc := ⟨.hbm, 86, rfl⟩
abbrev main_call1_v13 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_cst_5 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_cst_6 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_cst_7 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_cst_8 : Ref sig .tc := ⟨.hbm, 120, rfl⟩
abbrev main_v53 : Ref sig .tc := ⟨.hbm, 121, rfl⟩
abbrev main_c_9 : Ref sig .tc := ⟨.hbm, 122, rfl⟩
abbrev main_v54 : Ref sig .tc := ⟨.hbm, 123, rfl⟩
abbrev main_c_10 : Ref sig .tc := ⟨.hbm, 124, rfl⟩
abbrev main_v55 : Ref sig .tc := ⟨.hbm, 125, rfl⟩
abbrev main_v56 : Ref sig .tc := ⟨.hbm, 126, rfl⟩
abbrev main_cst_11 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_cst_12 : Ref sig .tc := ⟨.hbm, 131, rfl⟩
abbrev main_v60 : Ref sig .tc := ⟨.hbm, 132, rfl⟩
abbrev main_cst_13 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_14 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_15 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_cst_16 : Ref sig .tc := ⟨.hbm, 153, rfl⟩
abbrev main_v78 : Ref sig .tc := ⟨.hbm, 154, rfl⟩

abbrev nD : Nat := 1
abbrev τ : Topo := Topo.v7x

variable {F : FTy → Type} [FloatOps F]
-- ==== Proof.Gate.Slots.lean ====
/- The streamed operand's four slots in on-chip memory, each filled by two half copies: names, the splits of what is
   held, and the ring of slots (`Lib/Ring.lean`) stated over them. -/
module

public import proofs.«01_k».proof.Proof.Gen.KernelIdeal.Frame
public import proofs.«01_k».proof.Proof.Gen.KernelIdeal.Skeleton
public import Idealize.ShloMosaic.Lib.Ring
public import Idealize.ShloMosaic.Lib.Ring.AtN
public import Idealize.ShloMosaic.Lib.Tactic
public import Idealize.ShloMosaic.Lib.WordCmp
public import Idealize.ShloMosaic.Lib.ValueLayout

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## The two conditions of the body, over the grid's points -/

/-- The first point fills the first three slots. -/
abbrev first (i : grid0.Coords) : Prop :=
  (Scalar.cmpi .ne (Scalar.extui (Scalar.cmpi .eq (BitVec.ofNat 32 (i 0).val) 0#32)) 0#32) = 1#1
/-- A point with a block still to fetch, three blocks ahead of its own. -/
abbrev ahead (i : grid0.Coords) : Prop := k0_cond2 i = 1#1

/-- Only point 0 is the first. -/
theorem first_iff : ∀ t : Fin cfg0.N, first (grid0.coords t) ↔ t.val = 0 :=
  (by decide +kernel : ∀ t : Fin grid0.N, first (grid0.coords t) ↔ t.val = 0)
/-- The points before 29 fetch ahead. -/
theorem ahead_iff : ∀ t : Fin cfg0.N, ahead (grid0.coords t) ↔ t.val < 29 :=
  (by decide +kernel : ∀ t : Fin grid0.N, ahead (grid0.coords t) ↔ t.val < 29)

/-! ## The buffers and the semaphores -/

/-- The four slots, one on-chip buffer. -/
abbrev scM : Memref sig .tc .vmem S4x512x1024 .f32 := Memref.whole cc0_scratch0
/-- The operand left in main memory. -/
abbrev hbM : Memref sig .tc .hbm S16384x1024 .f32 := Memref.whole main_v0
/-- A memref's buffer contents on core `c`. -/
abbrev HbBuf (c : Dev nD) {sp : Space} {S : Shape} {e : EltTy} (M : Memref sig .tc sp S e) : Type :=
  Buf (Elt F) (M.view.loc (c : Thread nD τ))
/-- A memref's buffer held whole at contents `f`. -/
abbrev hbPt (c : Dev nD) {sp : Space} {S : Shape} {e : EltTy} (M : Memref sig .tc sp S e) (f : HbBuf (F := F) c M) : sProp 𝕄 :=
  M.view.loc (c : Thread nD τ) ↦{fullShare} f

/-- The kernel's own semaphores: two to a slot. -/
abbrev osem : Fin 8 → SemLoc sig := fun j =>
  (![SemLoc.dma 4, SemLoc.dma 5, SemLoc.dma 6, SemLoc.dma 7, SemLoc.dma 8, SemLoc.dma 9, SemLoc.dma 10, SemLoc.dma 11] : Fin 8 → SemLoc sig) j
/-- None of them is a window's. -/
theorem ownSemFacts : Pipeline.OwnSemFacts spec0 osem := by decide

/-- The two semaphores of a slot at zero, as numbered. -/
abbrev pairP (c : Dev nD) (a b : Fin 12) : sProp 𝕄 :=
  iprop(semVal ((c : Thread nD τ), SemLoc.dma a) 0 ∗ semVal ((c : Thread nD τ), SemLoc.dma b) 0)

/-- The own semaphores at zero, listed slot by slot. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem [0, 1, 2, 3, 4, 5, 6, 7] (by decide) (by decide)]; rfl

/-! ## Slots, half slots, half blocks, cells -/

theorem inb_slot (s : Fin 4) : ∀ a, (![s.val, 0, 0] : Fin 3 → Nat) a + S1x512x1024.size a ≤ S4x512x1024.size a := by
  have := s.isLt; intro a; fin_cases a <;> simp <;> omega
theorem inb_half (s : Fin 4) (h : Fin 2) : ∀ a, (![s.val, 256 * h.val, 0] : Fin 3 → Nat) a + S1x256x1024.size a ≤ S4x512x1024.size a := by
  have := s.isLt; have := h.isLt; intro a; fin_cases a <;> simp <;> omega
theorem inb_src (b : Fin 32) (h : Fin 2) : ∀ a, (![512 * b.val + 256 * h.val, 0] : Fin 2 → Nat) a + S256x1024.size a ≤ S16384x1024.size a := by
  have := b.isLt; have := h.isLt; intro a; fin_cases a <;> simp <;> omega
theorem inb_cell (s : Fin 4) (h : Fin 2) : ∀ a, (![s.val, h.val] : Fin 2 → Nat) a + S1x1.size a ≤ S4x2.size a := by
  have := s.isLt; have := h.isLt; intro a; fin_cases a <;> simp <;> omega

/-- Slot `s`, as the body reads it. -/
def rslot (s : Fin 4) : Memref sig .tc .vmem S1x512x1024 .f32 :=
  scM.slice (Rect.unit (s := S4x512x1024) ![s.val, 0, 0] S1x512x1024.size (inb_slot s)) (fun _ => rfl)
/-- Half `h` of slot `s`, as the copies spell their destination. -/
def rhalf (s : Fin 4) (h : Fin 2) : Memref sig .tc .vmem S256x1024 .f32 :=
  (scM.slice (Rect.unit (s := S4x512x1024) ![s.val, 256 * h.val, 0] S1x256x1024.size (inb_half s h)) (fun _ => rfl)).squeeze S256x1024 squeezes_S1x256x1024_S256x1024
/-- Half `h` of block `b` of the operand, as the copies spell their source. -/
def srcH (b : Fin 32) (h : Fin 2) : Memref sig .tc .hbm S256x1024 .f32 :=
  hbM.slice (Rect.unit (s := S16384x1024) ![512 * b.val + 256 * h.val, 0] S256x1024.size (inb_src b h)) (fun _ => rfl)
/-- The semaphore of half `h` of slot `s`. -/
def cellA (s : Fin 4) (h : Fin 2) : DmaSems sig S_ :=
  (cc0_scratch1.slice (Rect.unit (s := S4x2) ![s.val, h.val] S1x1.size (inb_cell s h))).squeeze S_ squeezes_S1x1_S_
abbrev cellR (s : Fin 4) (h : Fin 2) : SemLoc sig := SemLoc.dma (cellA s h).sem
/-- Its number in the pool. -/
theorem cellR_eq : ∀ (s : Fin 4) (h : Fin 2), cellR s h = SemLoc.dma ⟨4 + 2 * s.val + h.val, by have := s.isLt; have := h.isLt; show _ < 12; omega⟩ := by
  decide

section Families
variable (c : Dev nD) (W : HbBuf (F := F) c hbM)

/-- Slot `s`'s copy of the operand is held at its own share. -/
abbrev qs (s : Fin 4) : PosShare TreeShare :=
  if s.val = 0 then fullShare.left else if s.val = 1 then fullShare.right.left else if s.val = 2 then fullShare.right.right.left else fullShare.right.right.right
/-- Slot `s` held at `f`. -/
abbrev slotP (s : Fin 4) (f : HbBuf (F := F) c (rslot s)) : sProp 𝕄 := (rslot s).view.loc (c : Thread nD τ) ↦[(rslot s).view.set]{fullShare} f
/-- Half `h` of slot `s` held at `f`. -/
abbrev halfP (s : Fin 4) (h : Fin 2) (f : HbBuf (F := F) c (rhalf s h)) : sProp 𝕄 := (rhalf s h).view.loc (c : Thread nD τ) ↦[(rhalf s h).view.set]{fullShare} f
/-- Slot `s`'s two semaphores at zero. -/
abbrev cellP (s : Fin 4) : sProp 𝕄 := iprop(semVal ((c : Thread nD τ), cellR s 0) 0 ∗ semVal ((c : Thread nD τ), cellR s 1) 0)
/-- Half `h` of block `b` in slot `s`'s copy of the operand. -/
abbrev srcP (s : Fin 4) (b : Fin 32) (h : Fin 2) : sProp 𝕄 := (srcH b h).view.loc (c : Thread nD τ) ↦[(srcH b h).view.set]{qs s} W
/-- The rest of that copy, outside both halves of block `b`. -/
def restP (s : Fin 4) (b : Fin 32) : sProp 𝕄 :=
  ((c : Thread nD τ).loc main_v0) ↦[(Finset.univ \ (srcH b 0).view.set) \ (srcH b 1).view.set]{qs s} W
/-- That copy, whole. -/
abbrev wholeP (s : Fin 4) : sProp 𝕄 := ((c : Thread nD τ).loc main_v0) ↦[Finset.univ]{qs s} W
/-- The slots' contents once half `h` of block `b` landed over `f`. -/
abbrev landedH (s : Fin 4) (b : Fin 32) (h : Fin 2) (f : HbBuf (F := F) c (rhalf s h)) : HbBuf (F := F) c (rhalf s h) :=
  (rhalf s h).view.writes (Elt F) f [⟨Rect.whole S256x1024, ReadAs.same.apply ((srcH b h).view.read (Elt F) W)⟩]
/-- The copy of half `h` of block `b` into slot `s`, under way. -/
abbrev flightH (s : Fin 4) (b : Fin 32) (h : Fin 2) (f : HbBuf (F := F) c (rhalf s h)) : sProp 𝕄 :=
  Transfers.Flight countersEmb (c : Thread nD τ) (cellR s h) default ((rhalf s h).view.amount (cellR s h))
    iprop(halfP c s h (landedH c W s b h f) ∗ srcP c W s b h)
/-- A slot at rest, with its copy of the operand whole. -/
abbrev slotW (s : Fin 4) (f : HbBuf (F := F) c (rslot s)) : sProp 𝕄 := iprop(slotP c s f ∗ wholeP c W s)
/-- A slot being filled: both halves under way, and the rest of the operand's copy. -/
abbrev flightW (s : Fin 4) (b : Fin 32) (_ : HbBuf (F := F) c (rslot s)) : sProp 𝕄 :=
  iprop((∃ f, flightH c W s b 0 f) ∗ (∃ f, flightH c W s b 1 f) ∗ restP c W s b)
/-- No block is held apart. -/
abbrev noHome (b : Fin 32) : sProp 𝕄 := iprop(emp)
/-- The ring before step `k`: every slot at rest before the first; from then on three blocks under way. -/
def ringAt (k : ℕ) : sProp 𝕄 :=
  if k = 0 then Ring.At₀ (cellP c) (slotW c W) noHome
  else Ring.At 3 (cellP c) (slotW c W) noHome (flightW c W) k

/-- Row `r` of block `b`, as an index of the operand. -/
def rowIx (b : Fin 32) (r : Fin 512) (k : Fin 1024) : S16384x1024.Idx :=
  ix2 (⟨512 * b.val + r.val, by have := b.isLt; have := r.isLt; omega⟩ : Fin 16384) k
/-- Block `b`, in every slot. -/
def slab (b : Fin 32) : HbBuf (F := F) c scM := fun x : S4x512x1024.Idx => W (rowIx b (x 1) (x 2))
end Families

/-! ## The slots, disjoint and covering -/

abbrev slotSet (s : Fin 4) : Finset S4x512x1024.Idx := (Rect.unit (s := S4x512x1024) ![s.val, 0, 0] S1x512x1024.size (inb_slot s)).set
abbrev halfSet (s : Fin 4) (h : Fin 2) : Finset S4x512x1024.Idx := (Rect.unit (s := S4x512x1024) ![s.val, 256 * h.val, 0] S1x256x1024.size (inb_half s h)).set
theorem slotSet_eq (s : Fin 4) : (rslot s).view.set = slotSet s := View.set_slice_whole _ _
theorem halfSet_eq (s : Fin 4) (h : Fin 2) : (rhalf s h).view.set = halfSet s h := by
  simp only [rhalf, Memref.view_squeeze, View.set_reshape]; exact View.set_slice_whole _ _
theorem srcSet_eq (b : Fin 32) (h : Fin 2) :
    (srcH b h).view.set = (Rect.unit (s := S16384x1024) ![512 * b.val + 256 * h.val, 0] S256x1024.size (inb_src b h)).set :=
  View.set_slice_whole _ _
theorem slots_disjoint (s s' : Fin 4) (h : s ≠ s') : Disjoint (slotSet s) (slotSet s') :=
  Ring.lead_disjoint (s := S4x512x1024) (0 : Fin 3) 1 (fun s : Fin 4 => (![s.val, 0, 0] : Fin 3 → Nat)) S1x512x1024.size inb_slot (fun s => by simp) rfl s s' h
theorem slots_cover : Finset.univ.biUnion slotSet = Finset.univ :=
  Ring.lead_cover (s := S4x512x1024) (0 : Fin 3) 1 (fun s : Fin 4 => (![s.val, 0, 0] : Fin 3 → Nat)) S1x512x1024.size inb_slot (fun s => by simp)
    (fun s a ha => by fin_cases a <;> first | exact absurd rfl ha | rfl) rfl (fun a ha => by fin_cases a <;> first | exact absurd rfl ha | rfl) rfl
/-- The two halves of a slot do not meet. -/
theorem halves_disjoint (s : Fin 4) : Disjoint (halfSet s 0) (halfSet s 1) :=
  Rect.unit_disjoint (1 : Fin 3) (Or.inl (by simp))
/-- A slot is its two halves. -/
theorem halves_union (s : Fin 4) : slotSet s = halfSet s 0 ∪ halfSet s 1 := by
  ext x
  simp only [slotSet, halfSet, Finset.mem_union, Rect.mem_set_unit]
  have h1 : (x 1).val < 512 := (x 1).isLt
  have h2 : (x 2).val < 1024 := (x 2).isLt
  constructor
  · intro h
    have h0 := h 0
    by_cases hx : (x 1).val < 256
    · left; intro a; fin_cases a
      · exact h0
      · exact ⟨Nat.zero_le _, by simpa using hx⟩
      · exact ⟨Nat.zero_le _, by simpa using h2⟩
    · right; intro a; fin_cases a
      · exact h0
      · exact ⟨by simpa using hx, by simpa using h1⟩
      · exact ⟨Nat.zero_le _, by simpa using h2⟩
  · rintro (h | h) <;> (intro a; fin_cases a)
    · exact h 0
    · exact ⟨Nat.zero_le _, by simpa using h1⟩
    · exact ⟨Nat.zero_le _, by simpa using h2⟩
    · exact h 0
    · exact ⟨Nat.zero_le _, by simpa using h1⟩
    · exact ⟨Nat.zero_le _, by simpa using h2⟩
/-- The two halves of a block do not meet. -/
theorem srcs_disjoint (b : Fin 32) : Disjoint (srcH b 0).view.set (srcH b 1).view.set := by
  rw [srcSet_eq, srcSet_eq]
  exact Rect.unit_disjoint (0 : Fin 2) (Or.inl (by simp))

/-! ## Splitting and joining what is held -/

section Splits
variable (c : Dev nD) (W : HbBuf (F := F) c hbM)

theorem slotP_eq (s : Fin 4) (f) : slotP (F := F) c s f = (((c : Thread nD τ).loc cc0_scratch0) ↦[slotSet s]{fullShare} f : sProp 𝕄) := by
  unfold slotP; rw [slotSet_eq]; rfl
theorem halfP_eq (s : Fin 4) (h : Fin 2) (f) : halfP (F := F) c s h f = (((c : Thread nD τ).loc cc0_scratch0) ↦[halfSet s h]{fullShare} f : sProp 𝕄) := by
  unfold halfP; rw [halfSet_eq]; rfl

/-- A slot is its two halves, at the same contents. -/
theorem slot_halves (s : Fin 4) (f : Buf (Elt F) ((c : Thread nD τ).loc cc0_scratch0)) :
    slotP (F := F) c s f ⊣⊢ iprop(halfP c s 0 f ∗ halfP c s 1 f) := by
  show ((((c : Thread nD τ).loc cc0_scratch0) ↦[(rslot s).view.set]{fullShare} f : sProp 𝕄))
    ⊣⊢ iprop((((c : Thread nD τ).loc cc0_scratch0) ↦[(rhalf s 0).view.set]{fullShare} f) ∗ (((c : Thread nD τ).loc cc0_scratch0) ↦[(rhalf s 1).view.set]{fullShare} f))
  rw [slotSet_eq, halfSet_eq, halfSet_eq, halves_union]
  exact pointsTo_union (halves_disjoint s)
/-- A slot held at something is its halves held at something. -/
theorem slot_split (s : Fin 4) (f) :
    slotP (F := F) c s f ⊢ iprop((∃ f0, halfP c s 0 f0) ∗ (∃ f1, halfP c s 1 f1)) := by
  iintro H
  ihave H' := (slot_halves c s f).1 $$ H
  icases H' with ⟨H0, H1⟩
  isplitl [H0]; · iexists f; iexact H0
  iexists f; iexact H1

/-- A slot's copy of the operand is block `b`'s halves and the rest. -/
theorem src_split (s : Fin 4) (b : Fin 32) :
    wholeP (F := F) c W s ⊣⊢ iprop(srcP c W s b 0 ∗ srcP c W s b 1 ∗ restP c W s b) := by
  unfold restP
  have h0 : wholeP (F := F) c W s ⊣⊢ iprop(srcP c W s b 0 ∗ ((c : Thread nD τ).loc main_v0) ↦[Finset.univ \ (srcH b 0).view.set]{qs s} W) :=
    pointsTo_split_subset (Finset.subset_univ _)
  have h1 : (((c : Thread nD τ).loc main_v0) ↦[Finset.univ \ (srcH b 0).view.set]{qs s} W : sProp 𝕄)
      ⊣⊢ iprop(srcP c W s b 1 ∗ ((c : Thread nD τ).loc main_v0) ↦[(Finset.univ \ (srcH b 0).view.set) \ (srcH b 1).view.set]{qs s} W) :=
    pointsTo_split_subset (fun x hx => Finset.mem_sdiff.mpr ⟨Finset.mem_univ _, fun h0 => Finset.disjoint_left.mp (srcs_disjoint b) h0 hx⟩)
  refine ⟨?_, ?_⟩
  · iintro H
    ihave H' := h0.1 $$ H
    icases H' with ⟨H0, R⟩
    isplitl [H0]; · iexact H0
    iapply h1.1; iexact R
  · iintro ⟨H0, R⟩
    iapply h0.2
    isplitl [H0]; · iexact H0
    iapply h1.2; iexact R

/-- The operand whole is the four slots' copies of it. -/
theorem whole_split : (hbPt c hbM W : sProp 𝕄) ⊣⊢ iprop(wholeP c W 0 ∗ wholeP c W 1 ∗ wholeP c W 2 ∗ wholeP c W 3) := by
  refine ⟨?_, ?_⟩
  · iintro H
    ihave G0 := (pointsTo_share (PosShare.mem_left_op_right fullShare)).1 $$ H
    icases G0 with ⟨H0, R1⟩
    ihave G1 := (pointsTo_share (PosShare.mem_left_op_right fullShare.right)).1 $$ R1
    icases G1 with ⟨H1, R2⟩
    ihave G2 := (pointsTo_share (PosShare.mem_left_op_right fullShare.right.right)).1 $$ R2
    icases G2 with ⟨H2, H3⟩
    isplitl [H0]; · iexact H0
    isplitl [H1]; · iexact H1
    isplitl [H2]; · iexact H2
    iexact H3
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2]; · iexact H2
    iexact H3

/-- What a landed half holds, on that half, is the block's rows. -/
theorem landed_half (s : Fin 4) (b : Fin 32) (h : Fin 2) (f : HbBuf (F := F) c (rhalf s h)) :
    halfP (F := F) c s h (landedH c W s b h f) = halfP c s h (slab c W b) := by
  refine pointsTo_congr fun i hi => ?_
  obtain ⟨z, -, rfl⟩ := Finset.mem_map.mp hi
  unfold landedH
  rw [← View.write_univ_eq_writes_whole, View.writes_nil, View.write_emb_of_mem _ _ (Finset.mem_univ _)]
  obtain ⟨x, y, rfl⟩ : ∃ (x : Fin 256) (y : Fin 1024), z = ix2 x y := ⟨z 0, z 1, by ext a; fin_cases a <;> rfl⟩
  have e : (rhalf s h).view.emb (ix2 x y) = (Rect.unit (s := S4x512x1024) ![s.val, 256 * h.val, 0] S1x256x1024.size (inb_half s h)).emb (ix3 (0 : Fin 1) x y) :=
    congrArg (fun v => (Rect.unit (s := S4x512x1024) ![s.val, 256 * h.val, 0] S1x256x1024.size (inb_half s h)).emb v)
      (reshapeEquiv_ix2_1ab (by decide) x y)
  rw [e]
  show W _ = W _
  refine congrArg W (funext fun a => ?_)
  fin_cases a
  · refine Fin.ext ?_
    show 512 * b.val + 256 * h.val + 1 * x.val = 512 * b.val + (256 * h.val + 1 * x.val)
    omega
  · refine Fin.ext ?_
    show 0 + 1 * y.val = 0 + 1 * y.val
    rfl

/-- A slot with both halves of block `b` landed holds block `b`. -/
theorem slot_join (s : Fin 4) (b : Fin 32) (f f') :
    iprop(halfP (F := F) c s 0 (landedH c W s b 0 f) ∗ halfP c s 1 (landedH c W s b 1 f')) ⊢ slotP c s (slab c W b) := by
  rw [landed_half, landed_half]; exact (slot_halves c s _).2

end Splits

end Cert.Gate

end
-- ==== Proof.Gate.Names.lean ====
/- The launch's pieces into the ring of slots and out of it, and the body's operands at a grid point named as the
   ring's slots, half blocks and semaphores. -/
module

public import proofs.«01_k».proof.Proof.Gate.Slots
public import Idealize.ShloMosaic.Lib.Pipeline.FrameBody
public import Idealize.ShloMosaic.Lib.Pipeline.FrameSuffix

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-! ## Into the ring, and out of it -/

section InOut
variable (c : Dev nD) (W : HbBuf (F := F) c hbM)

set_option maxHeartbeats 1000000 in
/-- The on-chip buffer whole is its four slots. -/
theorem slots_in : iprop(∃ d, owns (c : Thread nD τ) scM fullShare d)
    ⊢ (iprop((∃ f, slotP (F := F) c 0 f) ∗ (∃ f, slotP (F := F) c 1 f) ∗ (∃ f, slotP (F := F) c 2 f) ∗ ∃ f, slotP (F := F) c 3 f) : sProp 𝕄) := by
  simp only [scM, owns_whole]
  exact Ring.slots4_split (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)
set_option maxHeartbeats 1000000 in
/-- The four slots are the on-chip buffer whole. -/
theorem slots_out : (iprop((∃ f, slotP (F := F) c 0 f) ∗ (∃ f, slotP (F := F) c 1 f) ∗ (∃ f, slotP (F := F) c 2 f) ∗ ∃ f, slotP (F := F) c 3 f) : sProp 𝕄)
    ⊢ iprop(∃ d, owns (c : Thread nD τ) scM fullShare d) := by
  simp only [scM, owns_whole]
  exact Ring.slots4_join (U := Pipeline.UD sig nD τ) (ℓ := (c : Thread nD τ).loc cc0_scratch0) (q := fullShare) slotSet slots_disjoint slots_cover
    (slotP c 0) (slotP c 1) (slotP c 2) (slotP c 3) (slotP_eq c 0) (slotP_eq c 1) (slotP_eq c 2) (slotP_eq c 3)

/-- The eight semaphores at zero, as numbered. -/
abbrev numbered : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0
    ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0)
omit [FloatOps F] in
/-- A slot's pair of semaphores, as numbered. -/
theorem cellP_eq (s : Fin 4) (a b : Fin 12) (ha : cellR s 0 = SemLoc.dma a) (hb : cellR s 1 = SemLoc.dma b) :
    cellP (F := F) c s = iprop(semVal ((c : Thread nD τ), SemLoc.dma a) 0 ∗ semVal ((c : Thread nD τ), SemLoc.dma b) 0) := by
  unfold cellP; rw [ha, hb]
omit [FloatOps F] in
/-- The numbered semaphores are the slots' pairs. -/
theorem cells_eq : (numbered (F := F) c) ⊣⊢ iprop(cellP (F := F) c 0 ∗ cellP (F := F) c 1 ∗ cellP (F := F) c 2 ∗ cellP (F := F) c 3) := by
  rw [cellP_eq c 0 4 5 (by decide) (by decide), cellP_eq c 1 6 7 (by decide) (by decide),
    cellP_eq c 2 8 9 (by decide) (by decide), cellP_eq c 3 10 11 (by decide) (by decide)]
  refine ⟨?_, ?_⟩
  · iintro ⟨H0, H1, H2, H3, H4, H5, H6, H7⟩
    isplitl [H0 H1]; · isplitl [H0]; · iexact H0
                       iexact H1
    isplitl [H2 H3]; · isplitl [H2]; · iexact H2
                       iexact H3
    isplitl [H4 H5]; · isplitl [H4]; · iexact H4
                       iexact H5
    isplitl [H6]; · iexact H6
    iexact H7
  · iintro ⟨⟨H0, H1⟩, ⟨H2, H3⟩, ⟨H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- What the launch hands the ring: the on-chip buffer, the semaphores at zero, the operand. -/
abbrev pieces : sProp 𝕄 :=
  iprop((∃ d, owns (c : Thread nD τ) scM fullShare d) ∗ numbered c ∗ hbPt c hbM W)

/-- They are the ring before its first step. -/
theorem ring_in : pieces c W ⊢ ringAt c W 0 := by
  unfold ringAt; rw [if_pos rfl]; unfold Ring.At₀
  rw [Ring.bigSep_fin4]
  simp only [Ring.free]
  iintro ⟨HS, Hc, HW⟩
  iapply Ring.with_homes₀
  ihave Hc' := (cells_eq (F := F) c).1 $$ Hc
  icases Hc' with ⟨H0, H1, H2, H3⟩
  ihave HS' := (slots_in (F := F) c) $$ HS
  icases HS' with ⟨⟨%d0, HS0⟩, ⟨%d1, HS1⟩, ⟨%d2, HS2⟩, ⟨%d3, HS3⟩⟩
  ihave HW' := (whole_split (F := F) c W).1 $$ HW
  icases HW' with ⟨HW0, HW1, HW2, HW3⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  isplitl [H2 HS2 HW2]
  · isplitl [H2]; · iexact H2
    iexists d2; isplitl [HS2]; · iexact HS2
    iexact HW2
  · isplitl [H3]; · iexact H3
    iexists d3; isplitl [HS3]; · iexact HS3
    iexact HW3

/-- The ring after its last step is those pieces again. -/
theorem ring_out : ringAt c W 32 ⊢ pieces c W := by
  unfold ringAt; rw [if_neg (by decide)]
  iintro H
  ihave H' := (Ring.free4_of_At_last _ _ _ _) $$ H
  simp only [Ring.free]
  icases H' with ⟨-, ⟨H0, ⟨%f0, HS0, HW0⟩⟩, ⟨H1, ⟨%f1, HS1, HW1⟩⟩, ⟨H2, ⟨%f2, HS2, HW2⟩⟩, ⟨H3, ⟨%f3, HS3, HW3⟩⟩⟩
  isplitl [HS0 HS1 HS2 HS3]
  · iapply (slots_out (F := F) c); isplitl [HS0]; · iexists f0; iexact HS0
    isplitl [HS1]; · iexists f1; iexact HS1
    isplitl [HS2]; · iexists f2; iexact HS2
    iexists f3; iexact HS3
  isplitl [H0 H1 H2 H3]
  · iapply (cells_eq (F := F) c).2
    isplitl [H0]; · iexact H0
    isplitl [H1]; · iexact H1
    isplitl [H2]; · iexact H2
    iexact H3
  · iapply (whole_split (F := F) c W).2; isplitl [HW0]; · iexact HW0
    isplitl [HW1]; · iexact HW1
    isplitl [HW2]; · iexact HW2
    iexact HW3
end InOut

/-! ## The body's operands at a point, in the ring's names -/

section Canon
omit [FloatOps F]
instance : NeZero grid0.N := ⟨by rw [N_0]; decide⟩

/-- A box of the on-chip buffer at a half slot's offsets is that half slot. -/
theorem half_canon {o : Fin 3 → Nat} (s : Fin 4) (h : Fin 2) (e : o = ![s.val, 256 * h.val, 0]) (i) :
    (scM.slice (Rect.unit (s := S4x512x1024) o S1x256x1024.size i) (fun _ => rfl)).squeeze S256x1024 squeezes_S1x256x1024_S256x1024 = rhalf s h :=
  congrArg (fun M : Memref sig .tc .vmem S1x256x1024 .f32 => M.squeeze S256x1024 squeezes_S1x256x1024_S256x1024)
    (Memref.slice_unit_congr _ e _ _ (fun _ => rfl) (fun _ => rfl))
/-- A box of the semaphores at a half slot's offsets is its semaphore. -/
theorem cell_canon {o : Fin 2 → Nat} (s : Fin 4) (h : Fin 2) (e : o = ![s.val, h.val]) (i) :
    (cc0_scratch1.slice (Rect.unit (s := S4x2) o S1x1.size i)).squeeze S_ squeezes_S1x1_S_ = cellA s h :=
  congrArg (fun A : DmaSems sig S1x1 => A.squeeze S_ squeezes_S1x1_S_) (SemArray.slice_unit_congr _ e _ _)
/-- A box of the operand at a half block's offsets is that half block. -/
theorem src_canon {o : Fin 2 → Nat} (b : Fin 32) (h : Fin 2) (e : o = ![512 * b.val + 256 * h.val, 0]) (i) :
    hbM.slice (Rect.unit (s := S16384x1024) o S256x1024.size i) (fun _ => rfl) = srcH b h :=
  Memref.slice_unit_congr _ e _ _ (fun _ => rfl) (fun _ => rfl)

set_option synthInstance.maxSize 4096 in
theorem off_start_half_00 : ∀ t : Fin grid0.N, first (grid0.coords t) → (![0, 0, 0] : Fin 3 → Nat) = ![(Ring.sl 4 t.val).val, 256 * ((0 : Fin 2)).val, 0] := by decide +kernel
/-- The destination of half 0 of the block 0 ahead. -/
@[sl_canon] theorem canon_start_half_00 (t : Fin grid0.N) (h0 : first (grid0.coords t)) :
    (scM.slice (Rect.unit (s := S4x512x1024) ![0, 0, 0] S1x256x1024.size inb_S4x512x1024_S1x256x1024_0_0_0) (fun _ => rfl)).squeeze S256x1024 squeezes_S1x256x1024_S256x1024 = rhalf (Ring.sl 4 t.val) 0 :=
  half_canon _ _ (off_start_half_00 t h0) _
set_option synthInstance.maxSize 4096 in
theorem off_start_cell_00 : ∀ t : Fin grid0.N, first (grid0.coords t) → (![0, 0] : Fin 2 → Nat) = ![(Ring.sl 4 t.val).val, (0 : Fin 2).val] := by decide +kernel
/-- The semaphore of half 0 of the block 0 ahead. -/
@[sl_canon] theorem canon_start_cell_00 (t : Fin grid0.N) (h0 : first (grid0.coords t)) :
    (cc0_scratch1.slice (Rect.unit (s := S4x2) ![0, 0] S1x1.size inb_S4x2_S1x1_0_0)).squeeze S_ squeezes_S1x1_S_ = cellA (Ring.sl 4 t.val) 0 :=
  cell_canon _ _ (off_start_cell_00 t h0) _
set_option synthInstance.maxSize 4096 in
theorem off_start_src_00 : ∀ t : Fin grid0.N, first (grid0.coords t) → (![0, 0] : Fin 2 → Nat) = ![512 * (Ring.bk 32 t.val).val + 256 * (0 : Fin 2).val, 0] := by decide +kernel
/-- The source of half 0 of the block 0 ahead. -/
@[sl_canon] theorem canon_start_src_00 (t : Fin grid0.N) (h0 : first (grid0.coords t)) :
    hbM.slice (Rect.unit (s := S16384x1024) ![0, 0] S256x1024.size inb_S16384x1024_S256x1024_0_0) (fun _ => rfl) = srcH (Ring.bk 32 t.val) 0 :=
  src_canon _ _ (off_start_src_00 t h0) _
set_option synthInstance.maxSize 4096 in
theorem off_start_half_01 : ∀ t : Fin grid0.N, first (grid0.coords t) → (![0, 256, 0] : Fin 3 → Nat) = ![(Ring.sl 4 t.val).val, 256 * ((1 : Fin 2)).val, 0] := by decide +kernel
/-- The destination of half 1 of the block 0 ahead. -/
@[sl_canon] theorem canon_start_half_01 (t : Fin grid0.N) (h0 : first (grid0.coords t)) :
    (scM.slice (Rect.unit (s := S4x512x1024) ![0, 256, 0] S1x256x1024.size inb_S4x512x1024_S1x256x1024_0_256_0) (fun _ => rfl)).squeeze S256x1024 squeezes_S1x256x1024_S256x1024 = rhalf (Ring.sl 4 t.val) 1 :=
  half_canon _ _ (off_start_half_01 t h0) _
set_option synthInstance.maxSize 4096 in
theorem off_start_cell_01 : ∀ t : Fin grid0.N, first (grid0.coords t) → (![0, 1] : Fin 2 → Nat) = ![(Ring.sl 4 t.val).val, (1 : Fin 2).val] := by decide +kernel
/-- The semaphore of half 1 of the block 0 ahead. -/
@[sl_canon] theorem canon_start_cell_01 (t : Fin grid0.N) (h0 : first (grid0.coords t)) :
    (cc0_scratch1.slice (Rect.unit (s := S4x2) ![0, 1] S1x1.size inb_S4x2_S1x1_0_1)).squeeze S_ squeezes_S1x1_S_ = cellA (Ring.sl 4 t.val) 1 :=
  cell_canon _ _ (off_start_cell_01 t h0) _
set_option synthInstance.maxSize 4096 in
theorem off_start_src_01 : ∀ t : Fin grid0.N, first (grid0.coords t) → (![256, 0] : Fin 2 → Nat) = ![512 * (Ring.bk 32 t.val).val + 256 * (1 : Fin 2).val, 0] := by decide +kernel
/-- The source of half 1 of the block 0 ahead. -/
@[sl_canon] theorem canon_start_src_01 (t : Fin grid0.N) (h0 : first (grid0.coords t)) :
    hbM.slice (Rect.unit (s := S16384x1024) ![256, 0] S256x1024.size inb_S16384x1024_S256x1024_256_0) (fun _ => rfl) = srcH (Ring.bk 32 t.val) 1 :=
  src_canon _ _ (off_start_src_01 t h0) _
set_option synthInstance.maxSize 4096 in
theorem off_start_half_10 : ∀ t : Fin grid0.N, first (grid0.coords t) → (![1, 0, 0] : Fin 3 → Nat) = ![(Ring.sl 4 (t.val + 1)).val, 256 * ((0 : Fin 2)).val, 0] := by decide +kernel
/-- The destination of half 0 of the block 1 ahead. -/
@[sl_canon] theorem canon_start_half_10 (t : Fin grid0.N) (h0 : first (grid0.coords t)) :
    (scM.slice (Rect.unit (s := S4x512x1024) ![1, 0, 0] S1x256x1024.size inb_S4x512x1024_S1x256x1024_1_0_0) (fun _ => rfl)).squeeze S256x1024 squeezes_S1x256x1024_S256x1024 = rhalf (Ring.sl 4 (t.val + 1)) 0 :=
  half_canon _ _ (off_start_half_10 t h0) _
set_option synthInstance.maxSize 4096 in
theorem off_start_cell_10 : ∀ t : Fin grid0.N, first (grid0.coords t) → (![1, 0] : Fin 2 → Nat) = ![(Ring.sl 4 (t.val + 1)).val, (0 : Fin 2).val] := by decide +kernel
/-- The semaphore of half 0 of the block 1 ahead. -/
@[sl_canon] theorem canon_start_cell_10 (t : Fin grid0.N) (h0 : first (grid0.coords t)) :
    (cc0_scratch1.slice (Rect.unit (s := S4x2) ![1, 0] S1x1.size inb_S4x2_S1x1_1_0)).squeeze S_ squeezes_S1x1_S_ = cellA (Ring.sl 4 (t.val + 1)) 0 :=
  cell_canon _ _ (off_start_cell_10 t h0) _
set_option synthInstance.maxSize 4096 in
theorem off_start_src_10 : ∀ t : Fin grid0.N, first (grid0.coords t) → (![512, 0] : Fin 2 → Nat) = ![512 * (Ring.bk 32 (t.val + 1)).val + 256 * (0 : Fin 2).val, 0] := by decide +kernel
/-- The source of half 0 of the block 1 ahead. -/
@[sl_canon] theorem canon_start_src_10 (t : Fin grid0.N) (h0 : first (grid0.coords t)) :
    hbM.slice (Rect.unit (s := S16384x1024) ![512, 0] S256x1024.size inb_S16384x1024_S256x1024_512_0) (fun _ => rfl) = srcH (Ring.bk 32 (t.val + 1)) 0 :=
  src_canon _ _ (off_start_src_10 t h0) _
set_option synthInstance.maxSize 4096 in
theorem off_start_half_11 : ∀ t : Fin grid0.N, first (grid0.coords t) → (![1, 256, 0] : Fin 3 → Nat) = ![(Ring.sl 4 (t.val + 1)).val, 256 * ((1 : Fin 2)).val, 0] := by decide +kernel
/-- The destination of half 1 of the block 1 ahead. -/
@[sl_canon] theorem canon_start_half_11 (t : Fin grid0.N) (h0 : first (grid0.coords t)) :
    (scM.slice (Rect.unit (s := S4x512x1024) ![1, 256, 0] S1x256x1024.size inb_S4x512x1024_S1x256x1024_1_256_0) (fun _ => rfl)).squeeze S256x1024 squeezes_S1x256x1024_S256x1024 = rhalf (Ring.sl 4 (t.val + 1)) 1 :=
  half_canon _ _ (off_start_half_11 t h0) _
set_option synthInstance.maxSize 4096 in
theorem off_start_cell_11 : ∀ t : Fin grid0.N, first (grid0.coords t) → (![1, 1] : Fin 2 → Nat) = ![(Ring.sl 4 (t.val + 1)).val, (1 : Fin 2).val] := by decide +kernel
/-- The semaphore of half 1 of the block 1 ahead. -/
@[sl_canon] theorem canon_start_cell_11 (t : Fin grid0.N) (h0 : first (grid0.coords t)) :
    (cc0_scratch1.slice (Rect.unit (s := S4x2) ![1, 1] S1x1.size inb_S4x2_S1x1_1_1)).squeeze S_ squeezes_S1x1_S_ = cellA (Ring.sl 4 (t.val + 1)) 1 :=
  cell_canon _ _ (off_start_cell_11 t h0) _
set_option synthInstance.maxSize 4096 in
theorem off_start_src_11 : ∀ t : Fin grid0.N, first (grid0.coords t) → (![768, 0] : Fin 2 → Nat) = ![512 * (Ring.bk 32 (t.val + 1)).val + 256 * (1 : Fin 2).val, 0] := by decide +kernel
/-- The source of half 1 of the block 1 ahead. -/
@[sl_canon] theorem canon_start_src_11 (t : Fin grid0.N) (h0 : first (grid0.coords t)) :
    hbM.slice (Rect.unit (s := S16384x1024) ![768, 0] S256x1024.size inb_S16384x1024_S256x1024_768_0) (fun _ => rfl) = srcH (Ring.bk 32 (t.val + 1)) 1 :=
  src_canon _ _ (off_start_src_11 t h0) _
set_option synthInstance.maxSize 4096 in
theorem off_start_half_20 : ∀ t : Fin grid0.N, first (grid0.coords t) → (![2, 0, 0] : Fin 3 → Nat) = ![(Ring.sl 4 (t.val + 2)).val, 256 * ((0 : Fin 2)).val, 0] := by decide +kernel
/-- The destination of half 0 of the block 2 ahead. -/
@[sl_canon] theorem canon_start_half_20 (t : Fin grid0.N) (h0 : first (grid0.coords t)) :
    (scM.slice (Rect.unit (s := S4x512x1024) ![2, 0, 0] S1x256x1024.size inb_S4x512x1024_S1x256x1024_2_0_0) (fun _ => rfl)).squeeze S256x1024 squeezes_S1x256x1024_S256x1024 = rhalf (Ring.sl 4 (t.val + 2)) 0 :=
  half_canon _ _ (off_start_half_20 t h0) _
set_option synthInstance.maxSize 4096 in
theorem off_start_cell_20 : ∀ t : Fin grid0.N, first (grid0.coords t) → (![2, 0] : Fin 2 → Nat) = ![(Ring.sl 4 (t.val + 2)).val, (0 : Fin 2).val] := by decide +kernel
/-- The semaphore of half 0 of the block 2 ahead. -/
@[sl_canon] theorem canon_start_cell_20 (t : Fin grid0.N) (h0 : first (grid0.coords t)) :
    (cc0_scratch1.slice (Rect.unit (s := S4x2) ![2, 0] S1x1.size inb_S4x2_S1x1_2_0)).squeeze S_ squeezes_S1x1_S_ = cellA (Ring.sl 4 (t.val + 2)) 0 :=
  cell_canon _ _ (off_start_cell_20 t h0) _
set_option synthInstance.maxSize 4096 in
theorem off_start_src_20 : ∀ t : Fin grid0.N, first (grid0.coords t) → (![1024, 0] : Fin 2 → Nat) = ![512 * (Ring.bk 32 (t.val + 2)).val + 256 * (0 : Fin 2).val, 0] := by decide +kernel
/-- The source of half 0 of the block 2 ahead. -/
@[sl_canon] theorem canon_start_src_20 (t : Fin grid0.N) (h0 : first (grid0.coords t)) :
    hbM.slice (Rect.unit (s := S16384x1024) ![1024, 0] S256x1024.size inb_S16384x1024_S256x1024_1024_0) (fun _ => rfl) = srcH (Ring.bk 32 (t.val + 2)) 0 :=
  src_canon _ _ (off_start_src_20 t h0) _
set_option synthInstance.maxSize 4096 in
theorem off_start_half_21 : ∀ t : Fin grid0.N, first (grid0.coords t) → (![2, 256, 0] : Fin 3 → Nat) = ![(Ring.sl 4 (t.val + 2)).val, 256 * ((1 : Fin 2)).val, 0] := by decide +kernel
/-- The destination of half 1 of the block 2 ahead. -/
@[sl_canon] theorem canon_start_half_21 (t : Fin grid0.N) (h0 : first (grid0.coords t)) :
    (scM.slice (Rect.unit (s := S4x512x1024) ![2, 256, 0] S1x256x1024.size inb_S4x512x1024_S1x256x1024_2_256_0) (fun _ => rfl)).squeeze S256x1024 squeezes_S1x256x1024_S256x1024 = rhalf (Ring.sl 4 (t.val + 2)) 1 :=
  half_canon _ _ (off_start_half_21 t h0) _
set_option synthInstance.maxSize 4096 in
theorem off_start_cell_21 : ∀ t : Fin grid0.N, first (grid0.coords t) → (![2, 1] : Fin 2 → Nat) = ![(Ring.sl 4 (t.val + 2)).val, (1 : Fin 2).val] := by decide +kernel
/-- The semaphore of half 1 of the block 2 ahead. -/
@[sl_canon] theorem canon_start_cell_21 (t : Fin grid0.N) (h0 : first (grid0.coords t)) :
    (cc0_scratch1.slice (Rect.unit (s := S4x2) ![2, 1] S1x1.size inb_S4x2_S1x1_2_1)).squeeze S_ squeezes_S1x1_S_ = cellA (Ring.sl 4 (t.val + 2)) 1 :=
  cell_canon _ _ (off_start_cell_21 t h0) _
set_option synthInstance.maxSize 4096 in
theorem off_start_src_21 : ∀ t : Fin grid0.N, first (grid0.coords t) → (![1280, 0] : Fin 2 → Nat) = ![512 * (Ring.bk 32 (t.val + 2)).val + 256 * (1 : Fin 2).val, 0] := by decide +kernel
/-- The source of half 1 of the block 2 ahead. -/
@[sl_canon] theorem canon_start_src_21 (t : Fin grid0.N) (h0 : first (grid0.coords t)) :
    hbM.slice (Rect.unit (s := S16384x1024) ![1280, 0] S256x1024.size inb_S16384x1024_S256x1024_1280_0) (fun _ => rfl) = srcH (Ring.bk 32 (t.val + 2)) 1 :=
  src_canon _ _ (off_start_src_21 t h0) _
set_option synthInstance.maxSize 4096 in
theorem off_ahead_half_0 : ∀ t : Fin grid0.N, ahead (grid0.coords t) → ((k0_off2 (grid0.coords t)) : Fin 3 → Nat) = ![(Ring.sl 4 (t.val + 3)).val, 256 * ((0 : Fin 2)).val, 0] := by decide +kernel
/-- The destination of half 0 of the block 3 ahead. -/
@[sl_canon] theorem canon_ahead_half_0 (t : Fin grid0.N) (h0 : ahead (grid0.coords t)) :
    (scM.slice (Rect.unit (s := S4x512x1024) (k0_off2 (grid0.coords t)) S1x256x1024.size (k0_off2_inb (grid0.coords t) h0)) (fun _ => rfl)).squeeze S256x1024 squeezes_S1x256x1024_S256x1024 = rhalf (Ring.sl 4 (t.val + 3)) 0 :=
  half_canon _ _ (off_ahead_half_0 t h0) _
set_option synthInstance.maxSize 4096 in
theorem off_ahead_cell_0 : ∀ t : Fin grid0.N, ahead (grid0.coords t) → ((k0_off1 (grid0.coords t)) : Fin 2 → Nat) = ![(Ring.sl 4 (t.val + 3)).val, (0 : Fin 2).val] := by decide +kernel
/-- The semaphore of half 0 of the block 3 ahead. -/
@[sl_canon] theorem canon_ahead_cell_0 (t : Fin grid0.N) (h0 : ahead (grid0.coords t)) :
    (cc0_scratch1.slice (Rect.unit (s := S4x2) (k0_off1 (grid0.coords t)) S1x1.size (k0_off1_inb (grid0.coords t) h0))).squeeze S_ squeezes_S1x1_S_ = cellA (Ring.sl 4 (t.val + 3)) 0 :=
  cell_canon _ _ (off_ahead_cell_0 t h0) _
set_option synthInstance.maxSize 4096 in
theorem off_ahead_src_0 : ∀ t : Fin grid0.N, ahead (grid0.coords t) → ((k0_off3 (grid0.coords t) 0#32) : Fin 2 → Nat) = ![512 * (Ring.bk 32 (t.val + 3)).val + 256 * (0 : Fin 2).val, 0] := by decide +kernel
/-- The source of half 0 of the block 3 ahead. -/
@[sl_canon] theorem canon_ahead_src_0 (t : Fin grid0.N) (h0 : ahead (grid0.coords t)) :
    hbM.slice (Rect.unit (s := S16384x1024) (k0_off3 (grid0.coords t) 0#32) S256x1024.size (k0_off3_inb (grid0.coords t) h0 0)) (fun _ => rfl) = srcH (Ring.bk 32 (t.val + 3)) 0 :=
  src_canon _ _ (off_ahead_src_0 t h0) _
set_option synthInstance.maxSize 4096 in
theorem off_ahead_half_1 : ∀ t : Fin grid0.N, ahead (grid0.coords t) → ((k0_off5 (grid0.coords t)) : Fin 3 → Nat) = ![(Ring.sl 4 (t.val + 3)).val, 256 * ((1 : Fin 2)).val, 0] := by decide +kernel
/-- The destination of half 1 of the block 3 ahead. -/
@[sl_canon] theorem canon_ahead_half_1 (t : Fin grid0.N) (h0 : ahead (grid0.coords t)) :
    (scM.slice (Rect.unit (s := S4x512x1024) (k0_off5 (grid0.coords t)) S1x256x1024.size (k0_off5_inb (grid0.coords t) h0)) (fun _ => rfl)).squeeze S256x1024 squeezes_S1x256x1024_S256x1024 = rhalf (Ring.sl 4 (t.val + 3)) 1 :=
  half_canon _ _ (off_ahead_half_1 t h0) _
set_option synthInstance.maxSize 4096 in
theorem off_ahead_cell_1 : ∀ t : Fin grid0.N, ahead (grid0.coords t) → ((k0_off4 (grid0.coords t)) : Fin 2 → Nat) = ![(Ring.sl 4 (t.val + 3)).val, (1 : Fin 2).val] := by decide +kernel
/-- The semaphore of half 1 of the block 3 ahead. -/
@[sl_canon] theorem canon_ahead_cell_1 (t : Fin grid0.N) (h0 : ahead (grid0.coords t)) :
    (cc0_scratch1.slice (Rect.unit (s := S4x2) (k0_off4 (grid0.coords t)) S1x1.size (k0_off4_inb (grid0.coords t) h0))).squeeze S_ squeezes_S1x1_S_ = cellA (Ring.sl 4 (t.val + 3)) 1 :=
  cell_canon _ _ (off_ahead_cell_1 t h0) _
set_option synthInstance.maxSize 4096 in
theorem off_ahead_src_1 : ∀ t : Fin grid0.N, ahead (grid0.coords t) → ((k0_off3 (grid0.coords t) 256#32) : Fin 2 → Nat) = ![512 * (Ring.bk 32 (t.val + 3)).val + 256 * (1 : Fin 2).val, 0] := by decide +kernel
/-- The source of half 1 of the block 3 ahead. -/
@[sl_canon] theorem canon_ahead_src_1 (t : Fin grid0.N) (h0 : ahead (grid0.coords t)) :
    hbM.slice (Rect.unit (s := S16384x1024) (k0_off3 (grid0.coords t) 256#32) S256x1024.size (k0_off3_inb (grid0.coords t) h0 1)) (fun _ => rfl) = srcH (Ring.bk 32 (t.val + 3)) 1 :=
  src_canon _ _ (off_ahead_src_1 t h0) _
set_option synthInstance.maxSize 4096 in
theorem off_wait_half_0 : ∀ t : Fin grid0.N, ((k0_off7 (grid0.coords t)) : Fin 3 → Nat) = ![(Ring.sl 4 t.val).val, 256 * ((0 : Fin 2)).val, 0] := by decide +kernel
/-- The destination of half 0 of the block 0 ahead. -/
@[sl_canon] theorem canon_wait_half_0 (t : Fin grid0.N)  :
    (scM.slice (Rect.unit (s := S4x512x1024) (k0_off7 (grid0.coords t)) S1x256x1024.size (k0_off7_inb (grid0.coords t))) (fun _ => rfl)).squeeze S256x1024 squeezes_S1x256x1024_S256x1024 = rhalf (Ring.sl 4 t.val) 0 :=
  half_canon _ _ (off_wait_half_0 t ) _
set_option synthInstance.maxSize 4096 in
theorem off_wait_cell_0 : ∀ t : Fin grid0.N, ((k0_off6 (grid0.coords t)) : Fin 2 → Nat) = ![(Ring.sl 4 t.val).val, (0 : Fin 2).val] := by decide +kernel
/-- The semaphore of half 0 of the block 0 ahead. -/
@[sl_canon] theorem canon_wait_cell_0 (t : Fin grid0.N)  :
    (cc0_scratch1.slice (Rect.unit (s := S4x2) (k0_off6 (grid0.coords t)) S1x1.size (k0_off6_inb (grid0.coords t)))).squeeze S_ squeezes_S1x1_S_ = cellA (Ring.sl 4 t.val) 0 :=
  cell_canon _ _ (off_wait_cell_0 t ) _
set_option synthInstance.maxSize 4096 in
theorem off_wait_src_0 : ∀ t : Fin grid0.N, ((k0_off8 (grid0.coords t) 0#32) : Fin 2 → Nat) = ![512 * (Ring.bk 32 t.val).val + 256 * (0 : Fin 2).val, 0] := by decide +kernel
/-- The source of half 0 of the block 0 ahead. -/
@[sl_canon] theorem canon_wait_src_0 (t : Fin grid0.N)  :
    hbM.slice (Rect.unit (s := S16384x1024) (k0_off8 (grid0.coords t) 0#32) S256x1024.size (k0_off8_inb (grid0.coords t) 0)) (fun _ => rfl) = srcH (Ring.bk 32 t.val) 0 :=
  src_canon _ _ (off_wait_src_0 t ) _
set_option synthInstance.maxSize 4096 in
theorem off_wait_half_1 : ∀ t : Fin grid0.N, ((k0_off10 (grid0.coords t)) : Fin 3 → Nat) = ![(Ring.sl 4 t.val).val, 256 * ((1 : Fin 2)).val, 0] := by decide +kernel
/-- The destination of half 1 of the block 0 ahead. -/
@[sl_canon] theorem canon_wait_half_1 (t : Fin grid0.N)  :
    (scM.slice (Rect.unit (s := S4x512x1024) (k0_off10 (grid0.coords t)) S1x256x1024.size (k0_off10_inb (grid0.coords t))) (fun _ => rfl)).squeeze S256x1024 squeezes_S1x256x1024_S256x1024 = rhalf (Ring.sl 4 t.val) 1 :=
  half_canon _ _ (off_wait_half_1 t ) _
set_option synthInstance.maxSize 4096 in
theorem off_wait_cell_1 : ∀ t : Fin grid0.N, ((k0_off9 (grid0.coords t)) : Fin 2 → Nat) = ![(Ring.sl 4 t.val).val, (1 : Fin 2).val] := by decide +kernel
/-- The semaphore of half 1 of the block 0 ahead. -/
@[sl_canon] theorem canon_wait_cell_1 (t : Fin grid0.N)  :
    (cc0_scratch1.slice (Rect.unit (s := S4x2) (k0_off9 (grid0.coords t)) S1x1.size (k0_off9_inb (grid0.coords t)))).squeeze S_ squeezes_S1x1_S_ = cellA (Ring.sl 4 t.val) 1 :=
  cell_canon _ _ (off_wait_cell_1 t ) _
set_option synthInstance.maxSize 4096 in
theorem off_wait_src_1 : ∀ t : Fin grid0.N, ((k0_off8 (grid0.coords t) 256#32) : Fin 2 → Nat) = ![512 * (Ring.bk 32 t.val).val + 256 * (1 : Fin 2).val, 0] := by decide +kernel
/-- The source of half 1 of the block 0 ahead. -/
@[sl_canon] theorem canon_wait_src_1 (t : Fin grid0.N)  :
    hbM.slice (Rect.unit (s := S16384x1024) (k0_off8 (grid0.coords t) 256#32) S256x1024.size (k0_off8_inb (grid0.coords t) 1)) (fun _ => rfl) = srcH (Ring.bk 32 t.val) 1 :=
  src_canon _ _ (off_wait_src_1 t ) _
/-- The slot the body reads at point `t` is the slot of block `t`. -/
theorem off_load : ∀ t : Fin grid0.N, k0_off11 (grid0.coords t) = ![(Ring.sl 4 t.val).val, 0, 0] := by decide +kernel
instance (priority := high) closedLoad (t : Fin grid0.N) : ClosedOff (k0_off11 (grid0.coords t)) := ⟨![(Ring.sl 4 t.val).val, 0, 0], off_load t⟩
end Canon

end Cert.Gate

end
-- ==== Proof.Gate.Body.lean ====
/- What one call of the body does: the block it stores as a function of the weights and of the operand's block, and
   the form of its three proofs (at the first point, at a point of the middle, at the last points). -/
module

public import proofs.«01_k».proof.Proof.Gate.Names
public import Idealize.ShloMosaic.Lib.VecWindow

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

/-- The block a point stores: the body's arithmetic on the two weights and on the block of rows it read. -/
def blockOut (i : grid0.Coords) (w1 : Vec F S1024x1024 .f32) (w2 : Vec F S2x1024 .f32) (x : Vec F S1x512x1024 .f32) : Vec F S512x1 .f32 :=
  k0_pay1 (k0_pay4 w1 w2 (k0_pay2 x) (k0_pay3 x) (Scalar.ofBits .f32 0x44800000#32)) (k0_pay5 (BitVec.ofNat 32 (i 0).val)) 4096#32 0#32

/-- Block `b` of the operand, as the body reads it out of a slot. -/
def blk (c : Dev nD) (W : HbBuf (F := F) c hbM) (b : Fin 32) : Vec F S1x512x1024 .f32 := fun x => W (rowIx b (x 1) (x 2))

/-- A read of point `t`'s slot, holding block `b`, is block `b`. -/
theorem read_slab (c : Dev nD) (W : HbBuf (F := F) c hbM) (t : Fin cfg0.N) (b : Fin 32) (inb) :
    scM.view.readAt (Elt F) (Rect.unit (s := S4x512x1024) (k0_off11 (grid0.coords t)) S1x512x1024.size inb).toLoadRect (slab c W b) = blk c W b := by
  funext x
  show W (rowIx b _ _) = W (rowIx b _ _)
  have e := off_load t
  congr 2 <;> refine Fin.ext ?_
  · show k0_off11 (grid0.coords t) 1 + 1 * (x 1).val = (x 1).val
    have e1 : k0_off11 (grid0.coords t) 1 = 0 := congrFun e 1
    omega
  · show k0_off11 (grid0.coords t) 2 + 1 * (x 2).val = (x 2).val
    have e2 : k0_off11 (grid0.coords t) 2 = 0 := congrFun e 2
    omega

/-- A staging buffer stored whole at `w` is owned at `w`. -/
theorem stored (c : Dev nD) (arg4 : Memref sig .tc .vmem S512x1 .f32) (f) (w v : Vec F S512x1 .f32) (e : w = v) (inb) :
    (arg4.view.loc (c : Thread nD τ) ↦[arg4.view.set]{fullShare} arg4.view.writes (Elt F) f [⟨Rect.unit (s := S512x1) ![0, 0] ![512, 1] inb, w⟩] : sProp 𝕄)
      ⊢ owns (c : Thread nD τ) arg4 fullShare v := by
  subst e
  unfold owns
  iintro H
  iexists _
  isplitr
  swap; · iexact H
  ipureintro; exact View.read_writes_full arg4.view f (off := ![0, 0]) inb w []

/-- The body at point `t`, from the ring's pieces `R` to the pieces `R'`: the weights' buffers come back as they were and
    the output's holds the point's block. -/
def Runs (c : Dev nD) (t : Fin cfg0.N) (fh : HbBuf (F := F) c hbM) (R R' : sProp 𝕄) : Prop :=
  ∀ (arg2 : Memref sig .tc .vmem S1024x1024 .f32) (harg2 : arg2.IsWhole) (arg3 : Memref sig .tc .vmem S2x1024 .f32) (harg3 : arg3.IsWhole)
    (arg4 : Memref sig .tc .vmem S512x1 .f32) (harg4 : arg4.IsWhole) (x0 : Vec F S1024x1024 .f32) (x1 : Vec F S2x1024 .f32)
    (W : Waits sig Unit) (K : PUnit → sProp 𝕄),
    iprop(owns (c : Thread nD τ) arg2 fullShare x0 ∗ owns (c : Thread nD τ) arg3 fullShare x1 ∗ (∃ d, owns (c : Thread nD τ) arg4 fullShare d) ∗ R ∗ owes (c : Thread nD τ) 0 W
        ∗ (iprop(owns (c : Thread nD τ) arg2 fullShare x0 ∗ owns (c : Thread nD τ) arg3 fullShare x1
            ∗ owns (c : Thread nD τ) arg4 fullShare (blockOut (grid0.coords t) x0 x1 (blk c fh (Ring.bk 32 t.val))) ∗ R' ∗ (∃ W', owes (c : Thread nD τ) 0 W')) -∗ K ⟨⟩))
      ⊢ wp frame (wpE (defs₀ (F := F)) Variants.none c none) Set.univ (cc0__gating_body (grid0.coords t) (Memref.whole main_v0) (Memref.isWhole_whole _) arg2 harg2 arg3 harg3 arg4 harg4 scM (Memref.isWhole_whole _) cc0_scratch1) K

end Cert.Gate

end
-- ==== Proof.Gate.First.lean ====
/- The first point: the first four blocks start, the first is waited for, read and its slot freed. -/
module

public import proofs.«01_k».proof.Proof.Gate.Body

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- The first point: the first four blocks start, the first is waited for, read and its slot freed. -/
theorem run_first (c : Dev nD) (t : Fin cfg0.N) (h0 : first (grid0.coords t)) (h1 : ahead (grid0.coords t)) (fh : HbBuf (F := F) c hbM) :
    Runs c t fh iprop(Ring.free (cellP c) (slotW c fh) (Ring.sl 4 t.val) ∗ Ring.free (cellP c) (slotW c fh) (Ring.sl 4 (t.val + 1)) ∗ Ring.free (cellP c) (slotW c fh) (Ring.sl 4 (t.val + 2)) ∗ Ring.free (cellP c) (slotW c fh) (Ring.sl 4 (t.val + 3))) iprop(Ring.inflight (flightW c fh) (Ring.sl 4 (t.val + 1)) (Ring.bk 32 (t.val + 1)) ∗ Ring.inflight (flightW c fh) (Ring.sl 4 (t.val + 2)) (Ring.bk 32 (t.val + 2)) ∗ Ring.inflight (flightW c fh) (Ring.sl 4 (t.val + 3)) (Ring.bk 32 (t.val + 3)) ∗ Ring.free (cellP c) (slotW c fh) (Ring.sl 4 t.val)) := by
  intro arg2 harg2 arg3 harg3 arg4 harg4 x0 x1 W K
  haveI : Fact (first (grid0.coords t)) := ⟨h0⟩
  haveI : Fact (ahead (grid0.coords t)) := ⟨h1⟩
  simp only [cc0__gating_body_eq_skeleton]; unfold cc0__gating_body_skel
  simp only [k0_part1_eq_skeleton, k0_part2_eq_skeleton, k0_part3_eq_skeleton]
  have hcanon0 := canon_start_half_00 t h0
  have hcanon1 := canon_start_cell_00 t h0
  have hcanon2 := canon_start_src_00 t h0
  have hcanon3 := canon_start_half_01 t h0
  have hcanon4 := canon_start_cell_01 t h0
  have hcanon5 := canon_start_src_01 t h0
  have hcanon6 := canon_start_half_10 t h0
  have hcanon7 := canon_start_cell_10 t h0
  have hcanon8 := canon_start_src_10 t h0
  have hcanon9 := canon_start_half_11 t h0
  have hcanon10 := canon_start_cell_11 t h0
  have hcanon11 := canon_start_src_11 t h0
  have hcanon12 := canon_start_half_20 t h0
  have hcanon13 := canon_start_cell_20 t h0
  have hcanon14 := canon_start_src_20 t h0
  have hcanon15 := canon_start_half_21 t h0
  have hcanon16 := canon_start_cell_21 t h0
  have hcanon17 := canon_start_src_21 t h0
  unfold owns Ring.free
  iintro ⟨⟨%f0, %hf0, H0⟩, ⟨%f1, %hf1, H1⟩, ⟨%d2, %f2, -, H2⟩, ⟨⟨⟨Hca0, Hcb0⟩, ⟨%fs0, Hs0, Hw0⟩⟩, ⟨⟨Hca1, Hcb1⟩, ⟨%fs1, Hs1, Hw1⟩⟩, ⟨⟨Hca2, Hcb2⟩, ⟨%fs2, Hs2, Hw2⟩⟩, ⟨⟨Hca3, Hcb3⟩, ⟨%fs3, Hs3, Hw3⟩⟩⟩, HW, Hk⟩
  ihave Hsp0 := (src_split c fh (Ring.sl 4 t.val) (Ring.bk 32 t.val)).1 $$ Hw0
  icases Hsp0 with ⟨Hha0, Hhb0, Hr0⟩
  ihave Hss0 := slot_split c (Ring.sl 4 t.val) fs0 $$ Hs0
  icases Hss0 with ⟨⟨%ga0, Hsa0⟩, ⟨%gb0, Hsb0⟩⟩
  ihave Hsp1 := (src_split c fh (Ring.sl 4 (t.val + 1)) (Ring.bk 32 (t.val + 1))).1 $$ Hw1
  icases Hsp1 with ⟨Hha1, Hhb1, Hr1⟩
  ihave Hss1 := slot_split c (Ring.sl 4 (t.val + 1)) fs1 $$ Hs1
  icases Hss1 with ⟨⟨%ga1, Hsa1⟩, ⟨%gb1, Hsb1⟩⟩
  ihave Hsp2 := (src_split c fh (Ring.sl 4 (t.val + 2)) (Ring.bk 32 (t.val + 2))).1 $$ Hw2
  icases Hsp2 with ⟨Hha2, Hhb2, Hr2⟩
  ihave Hss2 := slot_split c (Ring.sl 4 (t.val + 2)) fs2 $$ Hs2
  icases Hss2 with ⟨⟨%ga2, Hsa2⟩, ⟨%gb2, Hsb2⟩⟩
  ihave Hsp3 := (src_split c fh (Ring.sl 4 (t.val + 3)) (Ring.bk 32 (t.val + 3))).1 $$ Hw3
  icases Hsp3 with ⟨Hha3, Hhb3, Hr3⟩
  ihave Hss3 := slot_split c (Ring.sl 4 (t.val + 3)) fs3 $$ Hs3
  icases Hss3 with ⟨⟨%ga3, Hsa3⟩, ⟨%gb3, Hsb3⟩⟩
  obtain rfl := harg2.eq_unread hf0; obtain rfl := harg3.eq_unread hf1
  sl_exec (disch := first | sl_exact h0 | sl_exact h1)
  ihave Hj := slot_join c fh (Ring.sl 4 t.val) (Ring.bk 32 t.val) ga0 gb0 $$ [Hsa0 Hsb0]
  · isplitl [Hsa0]; · iexact Hsa0
    iexact Hsb0
  sl_exec (disch := first | sl_exact h0 | sl_exact h1)
  have he : k0_pay1 (run_first.sl.r_4 c t fh arg2 harg2 arg3 harg3 x0 x1) (run_first.sl.r_5 t) 4096#32 0#32 = blockOut (grid0.coords t) x0 x1 (blk c fh (Ring.bk 32 t.val)) := by
    have e0 := (View.readAt_full arg2.view (harg2.unread x0) (off := ![0, 0]) inb_S1024x1024_S1024x1024_0_0).trans (harg2.read_unread x0)
    have e1 := (View.readAt_full arg3.view (harg3.unread x1) (off := ![0, 0]) inb_S2x1024_S2x1024_0_0).trans (harg3.read_unread x1)
    have e2 := read_slab c fh t (Ring.bk 32 t.val) (k0_off11_inb (grid0.coords t))
    conv_rhs => rw [blockOut, ← e0, ← e1, ← e2]
    rfl
  sl_step
  ihave H2' := stored c arg4 f2 _ _ he _ $$ H2
  unfold owns
  iapply Hk
  isplitl [H0]
  · iexists _; isplitr; · ipureintro; exact harg2.read_unread _
    iexact H0
  isplitl [H1]
  · iexists _; isplitr; · ipureintro; exact harg3.read_unread _
    iexact H1
  isplitl [H2']; · iexact H2'
  isplitl [Hca1 Hcb1 Hr1 Hca2 Hcb2 Hr2 Hca3 Hcb3 Hr3 Hca0 Hcb0 Hj Hha0 Hhb0 Hr0]
  · isplitl [Hca1 Hcb1 Hr1]
    · iexists fs1
      isplitl [Hca1]; · iexists ga1; iexact Hca1
      isplitl [Hcb1]; · iexists gb1; iexact Hcb1
      iexact Hr1
    isplitl [Hca2 Hcb2 Hr2]
    · iexists fs2
      isplitl [Hca2]; · iexists ga2; iexact Hca2
      isplitl [Hcb2]; · iexists gb2; iexact Hcb2
      iexact Hr2
    isplitl [Hca3 Hcb3 Hr3]
    · iexists fs3
      isplitl [Hca3]; · iexists ga3; iexact Hca3
      isplitl [Hcb3]; · iexists gb3; iexact Hcb3
      iexact Hr3
    isplitl [Hca0 Hcb0]
    · isplitl [Hca0]; · iexact Hca0
      iexact Hcb0
    iexists slab c fh (Ring.bk 32 t.val)
    isplitl [Hj]; · iexact Hj
    iapply (src_split c fh (Ring.sl 4 t.val) (Ring.bk 32 t.val)).2
    isplitl [Hha0]; · iexact Hha0
    isplitl [Hhb0]; · iexact Hhb0
    iexact Hr0
  iexists _; iexact HW

end Cert.Gate

end
-- ==== Proof.Gate.Middle.lean ====
/- A point of the middle: one more block starts, the point's own is waited for, read and its slot freed. -/
module

public import proofs.«01_k».proof.Proof.Gate.First

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- A point of the middle: one more block starts, the point's own is waited for, read and its slot freed. -/
theorem run_middle (c : Dev nD) (t : Fin cfg0.N) (h0 : ¬first (grid0.coords t)) (h1 : ahead (grid0.coords t)) (fh : HbBuf (F := F) c hbM) :
    Runs c t fh iprop(Ring.inflight (flightW c fh) (Ring.sl 4 t.val) (Ring.bk 32 t.val) ∗ Ring.inflight (flightW c fh) (Ring.sl 4 (t.val + 1)) (Ring.bk 32 (t.val + 1)) ∗ Ring.inflight (flightW c fh) (Ring.sl 4 (t.val + 2)) (Ring.bk 32 (t.val + 2)) ∗ Ring.free (cellP c) (slotW c fh) (Ring.sl 4 (t.val + 3))) iprop(Ring.inflight (flightW c fh) (Ring.sl 4 (t.val + 1)) (Ring.bk 32 (t.val + 1)) ∗ Ring.inflight (flightW c fh) (Ring.sl 4 (t.val + 2)) (Ring.bk 32 (t.val + 2)) ∗ Ring.inflight (flightW c fh) (Ring.sl 4 (t.val + 3)) (Ring.bk 32 (t.val + 3)) ∗ Ring.free (cellP c) (slotW c fh) (Ring.sl 4 t.val)) := by
  intro arg2 harg2 arg3 harg3 arg4 harg4 x0 x1 W K
  haveI : Fact (¬first (grid0.coords t)) := ⟨h0⟩
  haveI : Fact (ahead (grid0.coords t)) := ⟨h1⟩
  simp only [cc0__gating_body_eq_skeleton]; unfold cc0__gating_body_skel
  simp only [k0_part1_eq_skeleton, k0_part2_eq_skeleton, k0_part3_eq_skeleton]
  unfold owns Ring.free Ring.inflight
  iintro ⟨⟨%f0, %hf0, H0⟩, ⟨%f1, %hf1, H1⟩, ⟨%d2, %f2, -, H2⟩, ⟨⟨%ff0, ⟨%fa0, Hca0⟩, ⟨%fb0, Hcb0⟩, Hr0⟩, HF1, HF2, ⟨⟨Hca3, Hcb3⟩, ⟨%fs3, Hs3, Hw3⟩⟩⟩, HW, Hk⟩
  ihave Hsp3 := (src_split c fh (Ring.sl 4 (t.val + 3)) (Ring.bk 32 (t.val + 3))).1 $$ Hw3
  icases Hsp3 with ⟨Hha3, Hhb3, Hr3⟩
  ihave Hss3 := slot_split c (Ring.sl 4 (t.val + 3)) fs3 $$ Hs3
  icases Hss3 with ⟨⟨%ga3, Hsa3⟩, ⟨%gb3, Hsb3⟩⟩
  obtain rfl := harg2.eq_unread hf0; obtain rfl := harg3.eq_unread hf1
  sl_exec (disch := first | sl_exact h0 | sl_exact h1)
  ihave Hj := slot_join c fh (Ring.sl 4 t.val) (Ring.bk 32 t.val) fa0 fb0 $$ [Hca0_dst Hcb0_dst]
  · isplitl [Hca0_dst]; · iexact Hca0_dst
    iexact Hcb0_dst
  sl_exec (disch := first | sl_exact h0 | sl_exact h1)
  have he : k0_pay1 (run_middle.sl.r_4 c t fh arg2 harg2 arg3 harg3 x0 x1) (run_middle.sl.r_5 t) 4096#32 0#32 = blockOut (grid0.coords t) x0 x1 (blk c fh (Ring.bk 32 t.val)) := by
    have e0 := (View.readAt_full arg2.view (harg2.unread x0) (off := ![0, 0]) inb_S1024x1024_S1024x1024_0_0).trans (harg2.read_unread x0)
    have e1 := (View.readAt_full arg3.view (harg3.unread x1) (off := ![0, 0]) inb_S2x1024_S2x1024_0_0).trans (harg3.read_unread x1)
    have e2 := read_slab c fh t (Ring.bk 32 t.val) (k0_off11_inb (grid0.coords t))
    conv_rhs => rw [blockOut, ← e0, ← e1, ← e2]
    rfl
  sl_step
  ihave H2' := stored c arg4 f2 _ _ he _ $$ H2
  unfold owns
  iapply Hk
  isplitl [H0]
  · iexists _; isplitr; · ipureintro; exact harg2.read_unread _
    iexact H0
  isplitl [H1]
  · iexists _; isplitr; · ipureintro; exact harg3.read_unread _
    iexact H1
  isplitl [H2']; · iexact H2'
  isplitl [HF1 HF2 Hca3 Hcb3 Hr3 Hca0 Hcb0 Hj Hca0_src Hcb0_src Hr0]
  · isplitl [HF1]
    · iexact HF1
    isplitl [HF2]
    · iexact HF2
    isplitl [Hca3 Hcb3 Hr3]
    · iexists fs3
      isplitl [Hca3]; · iexists ga3; iexact Hca3
      isplitl [Hcb3]; · iexists gb3; iexact Hcb3
      iexact Hr3
    isplitl [Hca0 Hcb0]
    · isplitl [Hca0]; · iexact Hca0
      iexact Hcb0
    iexists slab c fh (Ring.bk 32 t.val)
    isplitl [Hj]; · iexact Hj
    iapply (src_split c fh (Ring.sl 4 t.val) (Ring.bk 32 t.val)).2
    isplitl [Hca0_src]; · iexact Hca0_src
    isplitl [Hcb0_src]; · iexact Hcb0_src
    iexact Hr0
  iexists _; iexact HW

end Cert.Gate

end
-- ==== Proof.Gate.Last.lean ====
/- A point of the end: the point's own block is waited for, read and its slot freed; nothing starts. -/
module

public import proofs.«01_k».proof.Proof.Gate.Middle

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
/-- A point of the end: the point's own block is waited for, read and its slot freed; nothing starts. -/
theorem run_last (c : Dev nD) (t : Fin cfg0.N) (h0 : ¬first (grid0.coords t)) (h1 : ¬ahead (grid0.coords t)) (fh : HbBuf (F := F) c hbM) (X1 X2 X3 : sProp 𝕄) :
    Runs c t fh iprop(Ring.inflight (flightW c fh) (Ring.sl 4 t.val) (Ring.bk 32 t.val) ∗ X1 ∗ X2 ∗ X3) iprop(X1 ∗ X2 ∗ X3 ∗ Ring.free (cellP c) (slotW c fh) (Ring.sl 4 t.val)) := by
  intro arg2 harg2 arg3 harg3 arg4 harg4 x0 x1 W K
  haveI : Fact (¬first (grid0.coords t)) := ⟨h0⟩
  haveI : Fact (¬ahead (grid0.coords t)) := ⟨h1⟩
  simp only [cc0__gating_body_eq_skeleton]; unfold cc0__gating_body_skel
  simp only [k0_part1_eq_skeleton, k0_part2_eq_skeleton, k0_part3_eq_skeleton]
  unfold owns Ring.free Ring.inflight
  iintro ⟨⟨%f0, %hf0, H0⟩, ⟨%f1, %hf1, H1⟩, ⟨%d2, %f2, -, H2⟩, ⟨⟨%ff0, ⟨%fa0, Hca0⟩, ⟨%fb0, Hcb0⟩, Hr0⟩, HF1, HF2, HF3⟩, HW, Hk⟩
  obtain rfl := harg2.eq_unread hf0; obtain rfl := harg3.eq_unread hf1
  sl_exec (disch := first | sl_exact h0 | sl_exact h1)
  ihave Hj := slot_join c fh (Ring.sl 4 t.val) (Ring.bk 32 t.val) fa0 fb0 $$ [Hca0_dst Hcb0_dst]
  · isplitl [Hca0_dst]; · iexact Hca0_dst
    iexact Hcb0_dst
  sl_exec (disch := first | sl_exact h0 | sl_exact h1)
  have he : k0_pay1 (run_last.sl.r_4 c t fh arg2 harg2 arg3 harg3 x0 x1) (run_last.sl.r_5 t) 4096#32 0#32 = blockOut (grid0.coords t) x0 x1 (blk c fh (Ring.bk 32 t.val)) := by
    have e0 := (View.readAt_full arg2.view (harg2.unread x0) (off := ![0, 0]) inb_S1024x1024_S1024x1024_0_0).trans (harg2.read_unread x0)
    have e1 := (View.readAt_full arg3.view (harg3.unread x1) (off := ![0, 0]) inb_S2x1024_S2x1024_0_0).trans (harg3.read_unread x1)
    have e2 := read_slab c fh t (Ring.bk 32 t.val) (k0_off11_inb (grid0.coords t))
    conv_rhs => rw [blockOut, ← e0, ← e1, ← e2]
    rfl
  sl_step
  ihave H2' := stored c arg4 f2 _ _ he _ $$ H2
  unfold owns
  iapply Hk
  isplitl [H0]
  · iexists _; isplitr; · ipureintro; exact harg2.read_unread _
    iexact H0
  isplitl [H1]
  · iexists _; isplitr; · ipureintro; exact harg3.read_unread _
    iexact H1
  isplitl [H2']; · iexact H2'
  isplitl [HF1 HF2 HF3 Hca0 Hcb0 Hj Hca0_src Hcb0_src Hr0]
  · isplitl [HF1]
    · iexact HF1
    isplitl [HF2]
    · iexact HF2
    isplitl [HF3]
    · iexact HF3
    isplitl [Hca0 Hcb0]
    · isplitl [Hca0]; · iexact Hca0
      iexact Hcb0
    iexists slab c fh (Ring.bk 32 t.val)
    isplitl [Hj]; · iexact Hj
    iapply (src_split c fh (Ring.sl 4 t.val) (Ring.bk 32 t.val)).2
    isplitl [Hca0_src]; · iexact Hca0_src
    isplitl [Hcb0_src]; · iexact Hcb0_src
    iexact Hr0
  iexists _; iexact HW

end Cert.Gate

end
-- ==== Proof.Gate.Launch.lean ====
/- The launch: the lines around the kernel, the proof data of its pipeline, the body at every point of the grid, and
   the frame: every execution terminates and leaves the arguments as they were. -/
module

public import proofs.«01_k».proof.Proof.Gate.Last
public import Idealize.ShloMosaic.Lib.Pipeline.FrameBody
public import Idealize.ShloMosaic.Lib.Pipeline.FrameSuffix
public import Idealize.ShloMosaic.Lib.Claim

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The lines around the kernel -/

set_option maxHeartbeats 800000 in
/-- The program is the lines before the kernel, the kernel, and the lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer neither the kernel's pipeline nor a later line writes ends as the kernel found it. -/
theorem tail_kept (dats : (p : Fin _) → (c : Dev nD) → Dat τ (Elt F) Unit ℕ (Pipeline.UD sig nD τ) ℕ (cfgs p) c) (c : Dev nD) (b : Ref sig .tc)
    (h1 : b ≠ main_v2) (h2 : b ≠ main_cst) (h3 : b ≠ main_v3) (h : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.reshape_writes, Finset.mem_singleton]
      repeat' apply And.intro
      all_goals first | exact StableHlo.devRef_ne_of_ne h1 | exact StableHlo.devRef_ne_of_ne h2 | exact StableHlo.devRef_ne_of_ne h3)),
    Pipeline.withArrays_of_ne _ c (V0 m c) _ b h]

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, for any proof data whose arrays are what the kernel finds. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(((h c).2 main_arg0 (Pipeline.mem_restRefs_of main_arg0 (by decide) (by decide))).trans ((tail_kept m dats c main_arg0 (by decide) (by decide) (by decide) (by decide)).trans (V_main_arg0 m c))),
      (((h c).2 main_arg1 (Pipeline.mem_restRefs_of main_arg1 (by decide) (by decide))).trans ((tail_kept m dats c main_arg1 (by decide) (by decide) (by decide) (by decide)).trans (V_main_arg1 m c))),
      (((h c).2 main_arg2 (Pipeline.mem_restRefs_of main_arg2 (by decide) (by decide))).trans ((tail_kept m dats c main_arg2 (by decide) (by decide) (by decide) (by decide)).trans (V_main_arg2 m c))),
      (((h c).2 main_arg3 (Pipeline.mem_restRefs_of main_arg3 (by decide) (by decide))).trans ((tail_kept m dats c main_arg3 (by decide) (by decide) (by decide) (by decide)).trans (V_main_arg3 m c))),
      (((h c).2 main_arg4 (Pipeline.mem_restRefs_of main_arg4 (by decide) (by decide))).trans ((tail_kept m dats c main_arg4 (by decide) (by decide) (by decide) (by decide)).trans (V_main_arg4 m c))),
      (((h c).2 main_arg5 (Pipeline.mem_restRefs_of main_arg5 (by decide) (by decide))).trans ((tail_kept m dats c main_arg5 (by decide) (by decide) (by decide) (by decide)).trans (V_main_arg5 m c))),
      (((h c).2 main_arg6 (Pipeline.mem_restRefs_of main_arg6 (by decide) (by decide))).trans ((tail_kept m dats c main_arg6 (by decide) (by decide) (by decide) (by decide)).trans (V_main_arg6 m c))),
      ((h c).1 0).trans (((dats 0 c).arrAt_in 0 rfl _).trans ((hA c 0).trans (V_main_arg7 m c))),
      (((h c).2 main_arg8 (Pipeline.mem_restRefs_of main_arg8 (by decide) (by decide))).trans ((tail_kept m dats c main_arg8 (by decide) (by decide) (by decide) (by decide)).trans (V_main_arg8 m c))),
      (((h c).2 main_arg9 (Pipeline.mem_restRefs_of main_arg9 (by decide) (by decide))).trans ((tail_kept m dats c main_arg9 (by decide) (by decide) (by decide) (by decide)).trans (V_main_arg9 m c))),
      (((h c).2 main_arg10 (Pipeline.mem_restRefs_of main_arg10 (by decide) (by decide))).trans ((tail_kept m dats c main_arg10 (by decide) (by decide) (by decide) (by decide)).trans (V_main_arg10 m c))),
      ((h c).1 1).trans (((dats 0 c).arrAt_in 1 rfl _).trans ((hA c 1).trans (V_main_arg11 m c))),
      (((h c).2 main_arg12 (Pipeline.mem_restRefs_of main_arg12 (by decide) (by decide))).trans ((tail_kept m dats c main_arg12 (by decide) (by decide) (by decide) (by decide)).trans (V_main_arg12 m c)))⟩) h

/-! ## What the launch hands the kernel -/

/-- The operand the body copies itself. -/
def own : Finset (Ref sig .tc) := {main_v0}
theorem own_sub : own ⊆ Pipeline.restRefs sig spec0 := by decide
/-- No later line touches it. -/
theorem sfx_but : ∀ ops ∈ ([hostOps1] : List (List (HloOp τ sig (Elt F)))), ∀ op ∈ ops,
    op.bufs ⊆ Pipeline.tailRefsBut sig Pipeline.Prefetch.none spec0 own := by
  intro ops hops op hop
  simp only [List.mem_cons, List.mem_nil_iff, or_false] at hops
  rcases hops with rfl
  refine Pipeline.sub_tailRefsBut Pipeline.Prefetch.none spec0 own op ((List.forall_iff_forall_mem.mp hostOps1_sub) op hop) (fun j => j.elim0) ?_
  simp only [hostOps1, List.mem_cons, List.mem_nil_iff, or_false] at hop
  rcases hop with rfl | rfl | rfl
  all_goals intro b hb; simp only [own, Finset.mem_singleton] at hb
  all_goals rcases hb with rfl <;>
    simp only [StableHlo.nullary_bufs, StableHlo.unary_bufs, StableHlo.reshape_bufs, Finset.mem_insert, Finset.mem_singleton, not_or] <;> and_intros <;> exact StableHlo.devRef_ne_of_ne (by decide)
/-- It is held at the contents the kernel finds. -/
theorem ownPts_eq (c : Dev nD) :
    (bigSep own (fun b => ((c : Thread nD τ).loc b) ↦{fullShare} V m c b) : sProp 𝕄) = iprop(hbPt c hbM (V m c main_v0)) := by
  rw [BI.bigSep_eq_bigSepL_of_eq [main_v0] (by decide) (by decide)]; rfl
/-- The launch's pieces, listed: the slots, the generator's register, the semaphores, the operand. -/
theorem PhiD_eq (c : Dev nD) :
    (Pipeline.ΦD osem spec0 own (V m) c : sProp 𝕄)
      = iprop(iprop((∃ d, owns (c : Thread nD τ) scM fullShare d)) ∗ (∃ r, prngReg c r) ∗ numbered c ∗ iprop(hbPt c hbM (V m c main_v0))) := by
  rw [Pipeline.ΦD_eq, scopedRest0_eq, ownSems_eq, ownPts_eq]; simp only [scM, owns_whole]; try rfl

/-! ## The pipeline's proof data -/

/-- Before point `k`: the register at some state, and the ring. -/
def PhiR (c : Dev nD) (k : ℕ) : sProp 𝕄 := iprop((∃ r, prngReg c r) ∗ ringAt c (V m c main_v0) k)

/-- The block of the result that point `t` stores. -/
def outAt (c : Dev nD) (t : Fin cfg0.N) : Vec F S512x1 .f32 :=
  blockOut (grid0.coords t) (iblk m c 0 t) (iblk m c 1 t) (blk c (V m c main_v0) (Ring.bk 32 t.val))

/-- The weights' buffers hold their blocks after every point, the output's holds the point's block. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at every point -/

/-- The ring before a point gives the pieces the body's run takes there, and what the run leaves is the ring before the
    next point. -/
theorem ring_step (c : Dev nD) (fh : HbBuf (F := F) c hbM) (t : Fin cfg0.N) :
    ∃ R R' : sProp 𝕄, (ringAt c fh t.val ⊢ R) ∧ (R' ⊢ ringAt c fh (t.val + 1)) ∧ Runs c t fh R R' := by
  have hN : t.val < 32 := lt_of_lt_of_eq t.isLt (show cfg0.N = 32 from N_0)
  by_cases h0 : first (grid0.coords t)
  · have k0 := (first_iff t).mp h0
    have h1 : ahead (grid0.coords t) := (ahead_iff t).mpr (by omega)
    refine ⟨_, _, ?_, ?_, run_first c t h0 h1 fh⟩
    · unfold ringAt; rw [if_pos k0, Ring.At₀_eq4' _ _ _ t.val k0 (by decide : 4 ≤ 32)]
      iintro ⟨-, H⟩; iexact H
    · unfold ringAt; rw [if_neg (by omega), Ring.At4_one' _ _ _ _ t.val k0 (by decide : 4 ≤ 32)]
      exact Ring.with_homes (Idealize.SL.BI.Entails.refl _)
  · have k0 : ¬t.val = 0 := fun h => h0 ((first_iff t).mpr h)
    by_cases h1 : ahead (grid0.coords t)
    · have k1 := (ahead_iff t).mp h1
      refine ⟨_, _, ?_, ?_, run_middle c t h0 h1 fh⟩
      · unfold ringAt; rw [if_neg k0, Ring.At4_here _ _ _ _ t.val (by omega)]
        iintro ⟨-, H⟩; iexact H
      · unfold ringAt; rw [if_neg (by omega), Ring.At4_next _ _ _ _ t.val (by omega), Ring.slotAt4_next0 _ _ _ t.val (by omega), Ring.slotAt4_next1 _ _ _ t.val (by omega), Ring.slotAt4_next2 _ _ _ t.val (by omega)]
        exact Ring.with_homes (Idealize.SL.BI.Entails.refl _)
    · have k1 : ¬t.val < 29 := fun h => h1 ((ahead_iff t).mpr h)
      refine ⟨_, _, ?_, ?_, run_last c t h0 h1 fh
        (Ring.slotAt 3 (cellP c) (slotW c fh) (flightW c fh) t.val 1) (Ring.slotAt 3 (cellP c) (slotW c fh) (flightW c fh) t.val 2)
        (Ring.free (cellP c) (slotW c fh) (Ring.sl 4 (t.val + 3)))⟩
      · unfold ringAt; rw [if_neg k0, Ring.At4_here_tail _ _ _ _ t.val hN]
        iintro ⟨-, H⟩; iexact H
      · unfold ringAt; rw [if_neg (by omega), Ring.At4_next_tail _ _ _ _ t.val (by omega) hN, Ring.slotAt4_tail_role _ _ _ t.val, Ring.slotAt4_tail_role1 _ _ _ t.val]
        exact Ring.with_homes (Idealize.SL.BI.Entails.refl _)

/-- Each window's staging buffer at point `t`. -/
abbrev ms0_0 (t : Fin cfg0.N) : Memref sig .tc .vmem S1024x1024 .f32 := win0_0.stage (cfg0.slots t 0)
abbrev ms0_1 (t : Fin cfg0.N) : Memref sig .tc .vmem S2x1024 .f32 := win0_1.stage (cfg0.slots t 1)
abbrev ms0_2 (t : Fin cfg0.N) : Memref sig .tc .vmem S512x1 .f32 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 1200000 in
/-- The body meets its obligation at every point: the ring's step there, and the run from its pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [after0_0, after0_1, after0_2, PhiR_castSucc m c t, PhiR_succ m c t]
  unfold Dat.owesAt Pipeline.owesWithin
  rw [show (dats m 0 c).owed t.castSucc = 0 from rfl, show (dats m 0 c).owed t.succ = 0 from rfl]
  unfold PhiR outAt
  obtain ⟨R, R', hR, hR', hrun⟩ := ring_step c (V m c main_v0) t
  iintro ⟨⟨Hg, Hr⟩, ⟨%W, -, HW⟩, ⟨%d0, H0⟩, ⟨%d1, H1⟩, ⟨%d2, H2⟩⟩
  iapply (hrun _ _ _ _ _ _ (iblk m c 0 t) (iblk m c 1 t) W _)
  isplitl [H0]; · iexact H0
  isplitl [H1]; · iexact H1
  isplitl [H2]; · iexists _; iexact H2
  isplitl [Hr]; · iapply hR; iexact Hr
  isplitl [HW]; · iexact HW
  iintro ⟨H0, H1, H2, Hr, ⟨%W', HW'⟩⟩
  isplitl [Hg Hr]
  · isplitl [Hg]; · iexact Hg
    iapply hR'; iexact Hr
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]
/-- The library's form of the same obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's pieces are the invariant before the first point, -/
theorem hin (c : Dev nD) : Pipeline.ΦD osem spec0 own (V m) c ⊢ (dats m 0 c).Φ 0 := by
  rw [PhiD_eq, show (dats m 0 c).Φ 0 = PhiR m c 0 from rfl]
  unfold PhiR
  iintro ⟨HR, Hg, Hq, Hh⟩
  isplitl [Hg]; · iexact Hg
  iapply (ring_in (F := F) c (V m c main_v0))
  isplitl [HR]; · iexact HR
  isplitl [Hq]; · iexact Hq
  iexact Hh
/-- and the invariant after the last point hands them back. -/
theorem hout (c : Dev nD) : (dats m 0 c).Φ (Fin.last cfg0.N) ⊢ Pipeline.ΦD osem spec0 own (V m) c := by
  rw [PhiD_eq, show (dats m 0 c).Φ (Fin.last cfg0.N) = PhiR m c grid0.N from rfl]
  unfold PhiR
  rw [show grid0.N = 32 by rw [N_0]]
  iintro ⟨Hg, Hr⟩
  ihave HX := (ring_out (F := F) c (V m c main_v0)) $$ Hr
  icases HX with ⟨HR, Hq, Hh⟩
  isplitl [HR]; · iexact HR
  isplitl [Hg]; · iexact Hg
  isplitl [Hq]; · iexact Hq
  iexact Hh

/-! ## The run and the frame -/

set_option backward.isDefEq.respectTransparency.types false in
set_option maxHeartbeats 800000 in
/-- Every execution ends with the pipeline's arrays at what the proof data say, and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem defs₀ Variants.none ownSemFacts own own_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)
/-- The same, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- Every execution of the kernel's program terminates with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_quiescent m ρ))

end Cert.Gate

end
-- ==== Proof.Gate.Word.lean ====
/- The program as printed and the program read at extended reals are one program: what is proved of the second at every
   instance of the numbers holds of the first. -/
module

public import proofs.«01_k».proof.Proof.Gate.Launch
public import proofs.«01_k».proof.Proof.Gen.Kernel

@[expose] public section

set_option maxRecDepth 65536

noncomputable section

namespace Cert.Gate

open Idealize.ShloMosaic Idealize.ShloMosaic.TcCoe

variable {F : FTy → Type} [FloatOps F]

/-- The kernel functions of the two printings are one function. -/
theorem body_eq : @Cert.Kernel.cc0__gating_body F _ Cert.Kernel.Gen.facts = @Cert.KernelIdeal.cc0__gating_body F _ Cert.KernelIdeal.Gen.facts := rfl

/-- So are the tables of kernels, -/
theorem table_eq : @Cert.Kernel.defs₀ F _ Cert.Kernel.Gen.facts = @Cert.KernelIdeal.defs₀ F _ Cert.KernelIdeal.Gen.facts := by
  unfold Cert.Kernel.defs₀ Cert.KernelIdeal.defs₀
  refine congrArg _ ?_
  funext l a
  match l, a with
  | 0, (t, s) =>
    show Cert.Kernel.cc0__gating_body _ _ _ _ _ _ _ _ _ _ _ _ = Cert.KernelIdeal.cc0__gating_body _ _ _ _ _ _ _ _ _ _ _ _
    rw [body_eq]; rfl
  | ⟨_ + 1, h⟩, _ => exact absurd h (Nat.not_lt.2 (Nat.le_add_left _ _))

/-- the tables of every function the programs call, -/
theorem defs_eq : @Cert.Kernel.defs F _ Cert.Kernel.Gen.facts = @Cert.KernelIdeal.defs F _ Cert.KernelIdeal.Gen.facts := by
  unfold Cert.Kernel.defs Cert.KernelIdeal.defs
  rw [table_eq]; rfl

/-- and the programs themselves. -/
theorem main_eq : @Cert.Kernel.main F _ Cert.Kernel.Gen.facts = @Cert.KernelIdeal.main F _ Cert.KernelIdeal.Gen.facts := rfl

end Cert.Gate

end
-- ==== Proof.Gate.Row.lean ====
/-
  What the gate decides for one token, written on plain functions of extended reals: the row of the token's 1024
  numbers, the 1024 rows of the first matrix and the two rows of the second. Neither program occurs here.
-/
module

public import Idealize.ShloMosaic.PureOps.Ideal
public import Idealize.ShloMosaic.PureOps.Ideal.Laws

@[expose] public section

noncomputable section

namespace Cert.Gate.Row

open Idealize.ShloMosaic

/-- The length of a row, the number a sum over it is divided by. -/
def width : EReal := Ideal.ofBits .f32 0x44800000#32
/-- The small number added to a variance before its root is taken. -/
def eps : EReal := Ideal.ofBits .f32 0x3727C5AC#32
/-- One half. -/
def half : EReal := Ideal.ofBits .f32 0x3F000000#32
/-- The rounded reciprocal of the root of two. -/
def rootHalf : EReal := Ideal.ofBits .f32 0x3F3504F3#32
/-- What the first token of a sequence has added to its first score. -/
def bonus : EReal := Ideal.ofBits .f32 0x42C80000#32

/-- The mean of a row. -/
def mean (f : Fin 1024 → EReal) : EReal := Ideal.div (∑ k, f k) width

/-- A row normalised: its mean taken off, and divided by the root of its variance. -/
def norm (f : Fin 1024 → EReal) (k : Fin 1024) : EReal :=
  Ideal.div (f k - mean f) (Ideal.sqrt (mean (fun q => (f q - mean f) * (f q - mean f)) + eps))

/-- The products of a row with the rows of a matrix. -/
def lin {n : Nat} (w : Fin n → Fin 1024 → EReal) (f : Fin 1024 → EReal) (j : Fin n) : EReal := ∑ k, f k * w j k

/-- The error-function form of the activation. -/
def act (z : EReal) : EReal := z * half * (1 + Ideal.erf (z * rootHalf))

/-- The two scores of a row. -/
def score (w1 : Fin 1024 → Fin 1024 → EReal) (w2 : Fin 2 → Fin 1024 → EReal) (f : Fin 1024 → EReal) (j : Fin 2) : EReal :=
  lin w2 (fun k => act (norm (lin w1 (norm f)) k)) j

/-- The weight of the first of two scores after both are exponentiated and scaled to add up to one. -/
def keep (a b : EReal) : EReal :=
  Ideal.div (Ideal.exp (a - max a b)) (Ideal.exp (a - max a b) + Ideal.exp (b - max a b))

/-- What the first score has added: the bonus when `p` holds, nothing otherwise. -/
def extra (p : Prop) [Decidable p] : EReal := if p then bonus else 0

/-- The gate of a row: one when the weight of its first score is at least a half, zero otherwise. `p` says whether the
    row is the first of its sequence. -/
def gate (w1 : Fin 1024 → Fin 1024 → EReal) (w2 : Fin 2 → Fin 1024 → EReal) (f : Fin 1024 → EReal) (p : Prop)
    [Decidable p] : EReal :=
  if half ≤ keep (score w1 w2 f 0 + extra p) (score w1 w2 f 1) then 1 else 0

end Cert.Gate.Row

end
-- ==== Proof.Gate.Block.lean ====
/-
  The column a grid point writes, read at a row.
-/
module

public import proofs.«01_k».proof.Proof.Gate.Row
public import proofs.«01_k».proof.Proof.Gate.Launch
public import Idealize.ShloMosaic.Lib.Pointwise

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The rows of a block, each divided by its length after summing. -/
def meanCol (v : FVec Ideal S512x1024 .f32) : FVec Ideal S512x1 .f32 :=
  divf (shapeCast S512x1 (multiReduction .add [1] S512 v 0x00000000#32 reduces_S512x1024_S512 (.inl rfl) rfl)
    shapeCasts_S512_S512x1) (broadcast S512x1 (Scalar.ofBits .f32 0x44800000#32))

/-- A block less the mean of each row. -/
def centred (v : FVec Ideal S512x1024 .f32) : FVec Ideal S512x1024 .f32 :=
  subf v (broadcastTo S512x1024 (meanCol v) broadcasts_S512x1_S512x1024)

/-- A block with each row normalised. -/
def normed (v : FVec Ideal S512x1024 .f32) : FVec Ideal S512x1024 .f32 :=
  divf (centred v) (broadcastTo S512x1024
    (sqrt (addf (meanCol (mulf (centred v) (centred v))) (broadcast S512x1 (Scalar.ofBits .f32 0x3727C5AC#32))))
    broadcasts_S512x1_S512x1024)

/-- The activation of every element of a block. -/
def acted (v : FVec Ideal S512x1024 .f32) : FVec Ideal S512x1024 .f32 :=
  mulf (mulf v (broadcast S512x1024 (Scalar.ofBits .f32 0x3F000000#32)))
    (addf (broadcast S512x1024 (Scalar.ofBits .f32 0x3F800000#32))
      (erf (mulf v (broadcast S512x1024 (Scalar.ofBits .f32 0x3F3504F3#32)))))

theorem meanCol_apply (v : FVec Ideal S512x1024 .f32) (r : Fin 512) :
    meanCol v (ix2 r 0) = Row.mean (fun k => v (ix2 r k)) := by
  pointwise [meanCol, Row.mean, Row.width]

theorem centred_apply (v : FVec Ideal S512x1024 .f32) (r : Fin 512) (k : Fin 1024) :
    centred v (ix2 r k) = v (ix2 r k) - Row.mean (fun k => v (ix2 r k)) := by
  rw [← meanCol_apply]
  pointwise [centred]

/-- A normalised block, read at a row. -/
theorem normed_apply (v : FVec Ideal S512x1024 .f32) (r : Fin 512) (k : Fin 1024) :
    normed v (ix2 r k) = Row.norm (fun k => v (ix2 r k)) k := by
  have h : meanCol (mulf (centred v) (centred v)) (ix2 r 0) = Row.mean (fun q =>
      (v (ix2 r q) - Row.mean (fun k => v (ix2 r k))) * (v (ix2 r q) - Row.mean (fun k => v (ix2 r k)))) := by
    rw [meanCol_apply]
    exact congrArg Row.mean (funext fun q => by rw [← centred_apply]; rfl)
  rw [Row.norm, ← h, ← centred_apply]
  pointwise [normed, Row.eps]

theorem acted_apply (v : FVec Ideal S512x1024 .f32) (r : Fin 512) (k : Fin 1024) :
    acted v (ix2 r k) = Row.act (v (ix2 r k)) := by
  pointwise [acted, Row.act, Row.half, Row.rootHalf]
  rfl

/-- The product of a block with the first matrix, read at a row. -/
theorem first_apply (v : FVec Ideal S512x1024 .f32) (w : FVec Ideal S1024x1024 .f32) (r : Fin 512) (j : Fin 1024) :
    matmul dot_S512x1024_S1024x1024_S512x1024_1_1_0_0_n_n none v w (constant S512x1024 .f32 0x00000000#32) (ix2 r j)
      = Row.lin (fun q k => w (ix2 q k)) (fun k => v (ix2 r k)) j := by
  pointwise [Row.lin]

/-- The product of a block with the second matrix, read at a row. -/
theorem second_apply (v : FVec Ideal S512x1024 .f32) (w : FVec Ideal S2x1024 .f32) (r : Fin 512) (j : Fin 2) :
    matmul dot_S512x1024_S2x1024_S512x2_1_1_0_0_n_n none v w (constant S512x2 .f32 0x00000000#32) (ix2 r j)
      = Row.lin (fun q k => w (ix2 q k)) (fun k => v (ix2 r k)) j := by
  pointwise [Row.lin]

/-- The scores of row `r` of a block. -/
theorem scores_apply (w1 : Vec Ideal S1024x1024 .f32) (w2 : Vec Ideal S2x1024 .f32) (x : Vec Ideal S1x512x1024 .f32)
    (r : Fin 512) (j : Fin 2) :
    k0_pay4 (F := Ideal) w1 w2 (k0_pay2 x) (k0_pay3 x) (Scalar.ofBits .f32 0x44800000#32) (ix2 r j)
      = Row.score (fun q k => w1 (ix2 q k)) (fun q k => w2 (ix2 q k)) (fun k => x (ix3 0 r k)) j := by
  have e : k0_pay4 (F := Ideal) w1 w2 (k0_pay2 x) (k0_pay3 x) (Scalar.ofBits .f32 0x44800000#32)
      = matmul dot_S512x1024_S2x1024_S512x2_1_1_0_0_n_n none
          (acted (normed (matmul dot_S512x1024_S1024x1024_S512x1024_1_1_0_0_n_n none (normed (k0_pay2 x)) w1
            (constant S512x1024 .f32 0x00000000#32)))) w2 (constant S512x2 .f32 0x00000000#32) := rfl
  have b : ∀ k, k0_pay2 (F := Ideal) x (ix2 r k) = x (ix3 0 r k) := fun k => by pointwise [k0_pay2]
  rw [e, second_apply]
  simp only [acted_apply, normed_apply, first_apply, b]
  rfl

/-- The remainder of a small row number by the sequence length, tested for zero: no correction of the sign applies. -/
theorem first_word (w : BitVec 32) (h : w.toNat < 16384) (a b : EReal) :
    Scalar.select (IntOp.cmpi .eq
      (Scalar.select (IntOp.andi (IntOp.xori (IntOp.cmpi .slt (IntOp.remsi .vector w 4096#32) 0#32) 0#1)
          (IntOp.cmpi .ne (IntOp.remsi .vector w 4096#32) 0#32))
        (IntOp.addi (IntOp.remsi .vector w 4096#32) 4096#32) (IntOp.remsi .vector w 4096#32)) 0#32) a b
      = if 4096 ∣ w.toNat then a else b := by
  have hz := IntOp.remsi_eq_zero_iff .vector (x := w) (by omega) 4096 (by decide) (by decide)
  have hn := IntOp.toNat_remsi .vector (x := w) (by omega) 4096 (by decide) (by decide)
  generalize hq : IntOp.remsi .vector w (BitVec.ofNat 32 4096) = q at hz hn
  have hs : IntOp.cmpi .slt q 0#32 = 0#1 := by
    rcases BitVec.eq_zero_or_eq_one (IntOp.cmpi .slt q 0#32) with e | e
    · exact e
    · rw [IntOp.cmpi_slt, BitVec.toInt_eq_toNat_of_lt (by omega)] at e
      exact absurd e (by simp)
  have hx : IntOp.andi (IntOp.xori (IntOp.cmpi .slt q 0#32) 0#1) (IntOp.cmpi .ne q 0#32) = 0#1 := by
    rw [hs]
    generalize IntOp.cmpi .ne q 0#32 = c
    revert c; decide
  rw [hx, show Scalar.select 0#1 (IntOp.addi q 4096#32) q = q from if_neg (by decide), Scalar.select]
  exact if_congr (IntOp.cmpi_eq.trans hz) rfl rfl

/-- A comparison carried to a number through a wider word is one or zero. -/
theorem bit_wide (c : BitVec 1) : FloatOps.sitofp (F := Ideal) .f32 (c.setWidth 32) = if c = 1#1 then (1 : EReal) else 0 := by
  rcases BitVec.eq_zero_or_eq_one c with e | e <;> subst e <;> simp [FloatOps.sitofp]

/-- The last payload at a row: the gate of the two scores and the row's number. -/
theorem gate_apply (s : FVec Ideal S512x2 .f32) (n : IVec S512x1 32) (r : Fin 512) (h : (n (ix2 r 0)).toNat < 16384) :
    k0_pay1 (F := Ideal) s n 4096#32 0#32 (ix2 r 0)
      = if Row.half ≤ Row.keep (s (ix2 r 0) + Row.extra (4096 ∣ (n (ix2 r 0)).toNat)) (s (ix2 r 1)) then 1 else 0 := by
  have e := first_word (n (ix2 r 0)) h Row.bonus 0
  rw [Row.extra, ← e]
  generalize hq : Scalar.select _ Row.bonus 0 = b
  have k : k0_pay1 (F := Ideal) s n 4096#32 0#32 (ix2 r 0)
      = FloatOps.sitofp (F := Ideal) .f32
          ((Ideal.cmp .oge (Row.keep (s (ix2 r 0) + b) (s (ix2 r 1))) Row.half).setWidth 32) := by
    rw [← hq]
    pointwise [k0_pay1, Row.keep, Row.half, Row.bonus]
    rfl
  rw [k, bit_wide]
  refine if_congr ?_ rfl rfl
  rw [Ideal.cmp]
  by_cases hc : Row.half ≤ Row.keep (s (ix2 r 0) + b) (s (ix2 r 1)) <;> simp [hc]

/-- The row numbers of a block: the block's number times its height, and the row in it. -/
theorem number_apply (i : Nat) (hi : i < 32) (r : Fin 512) :
    (k0_pay5 (BitVec.ofNat 32 i) (ix2 r 0)).toNat = 512 * i + r.val := by
  have e : k0_pay5 (BitVec.ofNat 32 i) (ix2 r 0) = BitVec.ofNat 32 i * 512#32 + BitVec.ofNat 32 (0 * 512 + r.val) := rfl
  have hr := r.isLt
  rw [e, BitVec.toNat_add, BitVec.toNat_mul]
  simp only [BitVec.toNat_ofNat]
  omega

/-- What a grid point writes, at a row. -/
theorem blockOut_apply (i : grid0.Coords) (w1 : Vec Ideal S1024x1024 .f32) (w2 : Vec Ideal S2x1024 .f32)
    (x : Vec Ideal S1x512x1024 .f32) (r : Fin 512) :
    blockOut (F := Ideal) i w1 w2 x (ix2 r 0)
      = Row.gate (fun q k => w1 (ix2 q k)) (fun q k => w2 (ix2 q k)) (fun k => x (ix3 0 r k))
          (4096 ∣ 512 * (i 0).val + r.val) := by
  have hi : (i 0).val < 32 := (i 0).isLt
  have hn := number_apply (i 0).val hi r
  have hr := r.isLt
  rw [blockOut, gate_apply _ _ _ (by rw [hn]; omega), scores_apply, scores_apply, Row.gate]
  simp only [hn]

end Cert.Gate

end
-- ==== Proof.Gate.Final.lean ====
/-
  The kernel's run at extended reals: its results as functions of the arguments.
-/
module

public import proofs.«01_k».proof.Proof.Gate.Block
public import Idealize.ShloMosaic.Lib.Pipeline.Value

@[expose] public section

set_option maxRecDepth 16384

noncomputable section

namespace Cert.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The column of gates of a matrix of rows. -/
def column (w1 : FVec Ideal S1024x1024 .f32) (w2 : FVec Ideal S2x1024 .f32) (x : FVec Ideal S16384x1024 .f32) :
    FVec Ideal S16384x1 .f32 := fun i =>
  Row.gate (fun q k => w1 (ix2 q k)) (fun q k => w2 (ix2 q k)) (fun k => x (ix2 (i 0) k)) (4096 ∣ (i 0).val)

/-- Where the three windows' blocks lie: the two matrices whole at every point, the result's block at the point's number. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (grid0.coords t 0).val = t.val :=
  (by decide +kernel : ∀ t : Fin grid0.N, _)

theorem emb0 (t : Fin cfg0.N) (j : S1024x1024.Idx) : ((cfg0.win 0).blk t).view.emb j = j := by
  obtain ⟨⟨e0, e1⟩, -⟩ := idx_facts t
  funext a; apply Fin.ext
  match a with
  | ⟨0, _⟩ => show win0_0.index t (0 : Fin 2) * 1024 + 1 * (j 0).val = (j 0).val; omega
  | ⟨1, _⟩ => show win0_0.index t (1 : Fin 2) * 1024 + 1 * (j 1).val = (j 1).val; omega

theorem emb1 (t : Fin cfg0.N) (j : S2x1024.Idx) : ((cfg0.win 1).blk t).view.emb j = j := by
  obtain ⟨-, ⟨e0, e1⟩, -⟩ := idx_facts t
  funext a; apply Fin.ext
  match a with
  | ⟨0, _⟩ => show win0_1.index t (0 : Fin 2) * 2 + 1 * (j 0).val = (j 0).val; omega
  | ⟨1, _⟩ => show win0_1.index t (1 : Fin 2) * 1024 + 1 * (j 1).val = (j 1).val; omega

/-- Row `r` of a point's block is row `512 t + r` of the column. -/
theorem emb2 (t : Fin cfg0.N) (r : Fin 512) :
    (((cfg0.win 2).blk t).view.emb (ix2 r 0 : S512x1.Idx) 0).val = 512 * t.val + r.val := by
  obtain ⟨-, -, ⟨e0, e1⟩, -⟩ := idx_facts t
  show win0_2.index t (0 : Fin 2) * 512 + 1 * r.val = _
  omega

/-- The first matrix's block at any point is the matrix. -/
theorem iblk0_eq (c : Dev nD) (t : Fin cfg0.N) : iblk m c 0 t = V m c main_arg7 := by
  funext j; show V m c main_arg7 (((cfg0.win 0).blk t).view.emb j) = V m c main_arg7 j; rw [emb0]

/-- The second matrix's block at any point is the matrix. -/
theorem iblk1_eq (c : Dev nD) (t : Fin cfg0.N) : iblk m c 1 t = V m c main_arg11 := by
  funext j; show V m c main_arg11 (((cfg0.win 1).blk t).view.emb j) = V m c main_arg11 j; rw [emb1]

/-- What a point writes back is its block of the column. -/
theorem flushed_eq (c : Dev nD) (t : Fin cfg0.N) :
    (dats (F := Ideal) m 0 c).flushed 2 t
      = ((cfg0.win 2).blk t).view.read (Elt Ideal) (column (V m c main_arg7) (V m c main_arg11) (V m c main_v0)) := by
  funext j
  show (dats (F := Ideal) m 0 c).after 2 t j
    = column (V m c main_arg7) (V m c main_arg11) (V m c main_v0) (((cfg0.win 2).blk t).view.emb j)
  have ht : t.val < 32 := lt_of_lt_of_eq t.isLt (show cfg0.N = 32 from N_0)
  obtain ⟨r, rfl⟩ : ∃ r : Fin 512, j = (ix2 r 0 : S512x1.Idx) :=
    ⟨j 0, funext fun a => by
      match a with
      | ⟨0, _⟩ => rfl
      | ⟨1, _⟩ => exact Subsingleton.elim (α := Fin 1) _ _⟩
  have hr := r.isLt
  have e := emb2 t r
  have hc : (grid0.coords t 0).val = t.val := (idx_facts t).2.2.2
  generalize hi : ((cfg0.win 2).blk t).view.emb (ix2 r 0 : S512x1.Idx) = i at e ⊢
  rw [after0_2, outAt, blockOut_apply, iblk0_eq, iblk1_eq, hc]
  unfold column
  have hx : (fun k => blk c (V m c main_v0) (Ring.bk 32 t.val) (ix3 0 r k))
      = fun k => V m c main_v0 (ix2 (i 0 : Fin 16384) k) := funext fun k => congrArg (V m c main_v0) (funext fun a => by
    match a with
    | ⟨0, _⟩ =>
      apply Fin.ext
      show 512 * (t.val % 32) + r.val = (i 0).val
      rw [e, Nat.mod_eq_of_lt ht]
    | ⟨1, _⟩ => rfl)
  rw [hx]
  simp only [e]

/-- Every index of the column is in some point's block. -/
theorem covered (i : S16384x1.Idx) : ∃ t : Fin cfg0.N, (cfg0.win 2).flush t = true ∧ i ∈ ((cfg0.win 2).blk t).view.set := by
  have h : (i 0).val < 16384 := (i 0).isLt
  have hN : cfg0.N = 32 := N_0
  let t : Fin cfg0.N := ⟨(i 0).val / 512, by omega⟩
  refine ⟨t, flush0_2 _, ?_⟩
  have hm := ((cfg0.win 2).blk t).view.emb_mem_set (ix2 (⟨(i 0).val % 512, Nat.mod_lt _ (by decide)⟩ : Fin 512) 0 : S512x1.Idx)
  have e := emb2 t ⟨(i 0).val % 512, Nat.mod_lt _ (by decide)⟩
  rwa [show ((cfg0.win 2).blk t).view.emb (ix2 (⟨(i 0).val % 512, Nat.mod_lt _ (by decide)⟩ : Fin 512) 0 : S512x1.Idx) = i from
    funext fun a => by
      match a with
      | ⟨0, _⟩ =>
        apply Fin.ext
        refine e.trans ?_
        show 512 * ((i 0).val / 512) + (i 0).val % 512 = (i 0).val
        omega
      | ⟨1, _⟩ => exact Subsingleton.elim (α := Fin 1) _ _] at hm

/-- The pipeline's output after the run: the column of gates. -/
theorem final (c : Dev nD) : (dats (F := Ideal) m 0 c).arrAt 2 cfg0.N
    = column (V m c main_arg7) (V m c main_arg11) (V m c main_v0) :=
  (dats (F := Ideal) m 0 c).arrAt_eq_of_cover 2 (column (V m c main_arg7) (V m c main_arg11) (V m c main_v0))
    (fun t _ => flushed_eq m c t) covered

/-- The gates by sequence and place in it, of the rows of a batch of sequences. -/
def gates (x : FVec Ideal S4x4096x1024 .f32) (w1 : FVec Ideal S1024x1024 .f32) (w2 : FVec Ideal S2x1024 .f32) :
    FVec Ideal S4x4096 .f32 := fun i =>
  Row.gate (fun q k => w1 (ix2 q k)) (fun q k => w2 (ix2 q k)) (fun k => x (ix3 (i 0) (i 1) k)) ((i 1).val = 0)

/-- The column of the rows in one list, folded back into sequences, is the gates by sequence and place. -/
theorem column_cast (x : FVec Ideal S4x4096x1024 .f32) (w1 : FVec Ideal S1024x1024 .f32) (w2 : FVec Ideal S2x1024 .f32) :
    shapeCast S4x4096 (column w1 w2 (shapeCast S16384x1024 x shapeCasts_S4x4096x1024_S16384x1024)) shapeCasts_S16384x1_S4x4096
      = gates x w1 w2 := by
  funext i
  have h0 : (i 0).val < 4 := (i 0).isLt
  have h1 : (i 1).val < 4096 := (i 1).isLt
  have hn : 4096 * (i 0).val + (i 1).val < 16384 := by omega
  rw [shapeCast_apply _ _ _ (ix2 (⟨4096 * (i 0).val + (i 1).val, hn⟩ : Fin 16384) (0 : Fin 1)) (by
    rw [Shape.rowMajor_val_two, Shape.rowMajor_val_two]
    show (4096 * (i 0).val + (i 1).val) * 1 + 0 = (i 0).val * 4096 + (i 1).val
    omega)]
  unfold column gates
  have hx : (fun k => shapeCast S16384x1024 x shapeCasts_S4x4096x1024_S16384x1024
        (ix2 (⟨4096 * (i 0).val + (i 1).val, hn⟩ : Fin 16384) k)) = fun k => x (ix3 (i 0 : Fin 4) (i 1 : Fin 4096) k) :=
    funext fun k => shapeCast_apply _ _ _ _ (by
      rw [Shape.rowMajor_val_three, Shape.rowMajor_val_two]
      show ((i 0).val * 4096 + (i 1).val) * 1024 + k.val = (4096 * (i 0).val + (i 1).val) * 1024 + k.val
      omega)
  have hp : 4096 ∣ 4096 * (i 0).val + (i 1).val ↔ (i 1).val = 0 := by omega
  simp only [ix2_0, hx, hp]

/-- The lines after the kernel write the constant one, -/
theorem tail_ones (W : Valuation τ sig (Elt Ideal)) : StableHlo.after (hostOps1 (F := Ideal)) W (Proc.devRef .tc main_v3)
    = (broadcastInDim S4x4096x1 ![] bcast_S_S4x4096x1 (constant (F := Ideal) S_ .f32 0x3F800000#32) : FVec Ideal S4x4096x1 .f32) := by
  after_results

/-- and the kernel's column folded into sequences. -/
theorem tail_mask (W : Valuation τ sig (Elt Ideal)) : StableHlo.after (hostOps1 (F := Ideal)) W (Proc.devRef .tc main_v2)
    = (shapeCast S4x4096 (W (Proc.devRef .tc main_v1) : FVec Ideal S16384x1 .f32) shapeCasts_S16384x1_S4x4096 : FVec Ideal S4x4096 .f32) := by
  after_results
  rfl

/-- The line before the kernel lists the rows of all sequences. -/
theorem V_rows (c : Dev nD) : V m c main_v0
    = (shapeCast S16384x1024 (m ((c.tc : Thread nD τ).loc main_arg0) : FVec Ideal S4x4096x1024 .f32)
        shapeCasts_S4x4096x1024_S16384x1024 : FVec Ideal S16384x1024 .f32) := by
  show StableHlo.after (hostOps0 (F := Ideal)) _ _ = _
  after_results
  rfl

/-- The kernel's two fresh results after its run, as functions of the arguments. -/
theorem run_values : θ_run defs (onTc (τ := τ) (main (F := Ideal))) (s₀ m ρ) (fun r => ∀ c : Dev nD,
      r.2.mem ((c.tc : Thread nD τ).loc main_v3) = (broadcastInDim S4x4096x1 ![] bcast_S_S4x4096x1 (constant (F := Ideal) S_ .f32 0x3F800000#32)
          : FVec Ideal S4x4096x1 .f32)
      ∧ r.2.mem ((c.tc : Thread nD τ).loc main_v2) = gates (m ((c.tc : Thread nD τ).loc main_arg0))
          (m ((c.tc : Thread nD τ).loc main_arg7)) (m ((c.tc : Thread nD τ).loc main_arg11))) := by
  refine (θ_run defs _ _).mono (fun r h c => ⟨?_, ?_⟩) (run_main (F := Ideal) m ρ)
  · exact ((h c).2 main_v3 (Pipeline.mem_restRefs_of main_v3 (by decide) (by decide))).trans (tail_ones _)
  · refine ((h c).2 main_v2 (Pipeline.mem_restRefs_of main_v2 (by decide) (by decide))).trans ((tail_mask _).trans ?_)
    rw [Pipeline.withArrays_arr spec0 (by decide) c _ _ (2 : Fin 3)]
    rw [← column_cast, ← V_rows, ← V_main_arg7 m c, ← V_main_arg11 m c]
    exact congrArg (fun v => shapeCast S4x4096 v shapeCasts_S16384x1_S4x4096) (final m c)

end Cert.Gate

end
-- ==== Proof.Gate.Numbers.lean ====
/-
  The values of the constants the two programs spell in bits, and the corners of the extended reals they meet.
-/
module

public import proofs.«01_k».proof.Proof.Gate.Row

@[expose] public section

noncomputable section

namespace Cert.Gate.Row

open Idealize.ShloMosaic

/-- The row length is 1024. -/
theorem width_eq : width = ((1024 : ℝ) : EReal) := by
  unfold width
  simp [Ideal.ofBits, Ideal.ieee, -EReal.coe_mul]
  norm_num

/-- The half is 1/2. -/
theorem half_eq : half = ((1 / 2 : ℝ) : EReal) := by
  unfold half
  simp [Ideal.ofBits, Ideal.ieee, -EReal.coe_mul]
  norm_num

/-- The bonus is 100. -/
theorem bonus_eq : bonus = ((100 : ℝ) : EReal) := by
  unfold bonus
  simp [Ideal.ofBits, Ideal.ieee, -EReal.coe_mul]
  norm_num

/-- The number added to a variance is a positive real. -/
theorem eps_eq : ∃ e : ℝ, 0 < e ∧ eps = (e : EReal) := by
  refine ⟨10995116 * (2 : ℝ) ^ (-40 : ℤ), by norm_num, ?_⟩
  unfold eps
  simp [Ideal.ofBits, Ideal.ieee, -EReal.coe_mul]

/-- The factor inside the error function is a real. -/
theorem rootHalf_eq : ∃ e : ℝ, rootHalf = (e : EReal) := by
  refine ⟨11863283 * (2 : ℝ) ^ (-24 : ℤ), ?_⟩
  unfold rootHalf
  simp [Ideal.ofBits, Ideal.ieee, -EReal.coe_mul]

/-- The bits of minus infinity mean the least extended real, -/
theorem lowest_eq : Ideal.ofBits .f32 0xFF800000#32 = ⊥ := by
  simp [Ideal.ofBits, Ideal.ieee]

/-- and those of infinity the greatest. -/
theorem highest_eq : Ideal.ofBits .f32 0x7F800000#32 = ⊤ := by
  simp [Ideal.ofBits, Ideal.ieee]

end Cert.Gate.Row

end
-- ==== Proof.Gate.RefNorm.lean ====
/-
  The reference's normalisations, read at an element: both are the same function of the array they normalise.
-/
module

public import proofs.«01_k».proof.Proof.Gate.Numbers
public import proofs.«01_k».proof.Proof.Gen.ReferenceIdeal.Read
public import Idealize.ShloMosaic.Lib.Pointwise

@[expose] public section

noncomputable section

namespace Cert.Gate.Ref

open Cert.ReferenceIdeal Cert.ReferenceIdeal.Gen Cert.ReferenceIdeal.Read
open Idealize.ShloMosaic Idealize.ShloMosaic.TcCoe Idealize.SL.Sem Idealize.ShloMosaic.StableHlo

/-- The row of an array of sequences that a place lies in. -/
abbrev row (x : FVec Ideal S4x4096x1024 .f32) (b : Fin 4) (l : Fin 4096) : Fin 1024 → EReal := fun k => x (ix3 b l k)

/-- The mean the reference keeps of a row. -/
theorem mean_apply (x : FVec Ideal S4x4096x1024 .f32) (i : S4x4096x1.Idx) :
    val_main_v3 (F := Ideal) x i = Row.mean (row x (i 0) (i 1)) := by
  rw [val_main_v3_apply, val_main_v1_apply, val_main_v0_apply, val_main_v2_apply, val_main_cst_0_apply, val_main_cst_apply]
  show Ideal.div (Ideal.ofBits .f32 0x00000000#32 + _) Row.width = _
  rw [Ideal.ofBits_zero_f32, zero_add]
  refine congrArg (fun s => Ideal.div s Row.width) (Finset.sum_congr rfl fun k _ => congrArg x (funext fun a => ?_))
  match a with
  | ⟨0, _⟩ => rfl
  | ⟨1, _⟩ => rfl
  | ⟨2, _⟩ => rfl

/-- The mean the variance takes off is the same. -/
theorem mean_again (x : FVec Ideal S4x4096x1024 .f32) : val_main_call0_v3 (F := Ideal) x = val_main_v3 (F := Ideal) x := rfl

/-- The divisor of the variance is the row length: nothing is taken off it. -/
theorem divisor (i : S_.Idx) : val_main_call0_v8 (F := Ideal) i = Row.width := by
  rw [val_main_call0_v8_apply, val_main_call0_cst_1_apply, val_main_call0_v7_apply, val_main_c_apply]
  show Row.width - (((0#32 : BitVec 32).toInt : ℝ) : EReal) = Row.width
  simp

/-- The reference's variance of a row. -/
theorem var_apply (x : FVec Ideal S4x4096x1024 .f32) (i : S4x4096x1.Idx) :
    val_main_v4 (F := Ideal) x i = Row.mean (fun q => (x (ix3 (i 0) (i 1) q) - Row.mean (row x (i 0) (i 1)))
      * (x (ix3 (i 0) (i 1) q) - Row.mean (row x (i 0) (i 1)))) := by
  have hc : ∀ j : S_.Idx, val_main_call0_v13 (F := Ideal) j = 1#1 := fun j => by
    rw [val_main_call0_v13_apply, divisor, val_main_call0_cst_3_apply, Row.width_eq]
    show BitVec.ofBool (decide (Ideal.ofBits .f32 0x00000000#32 < ((1024 : ℝ) : EReal))) = _
    rw [Ideal.ofBits_zero_f32, decide_eq_true (by exact_mod_cast (by norm_num : (0 : ℝ) < 1024))]
    rfl
  have hs : val_main_v4 (F := Ideal) x i = val_main_call0_v12 (F := Ideal) x i := by
    unfold val_main_v4
    show (if broadcastInDim S4x4096x1 ![] bcast_S_S4x4096x1 (val_main_call0_v13 (F := Ideal)) i = 1#1 then _ else _) = _
    exact if_pos (hc _)
  rw [hs, val_main_call0_v12_apply, val_main_call0_v10_apply, val_main_call0_v9_apply, val_main_call0_v11_apply, divisor,
    val_main_call0_cst_2_apply]
  show Ideal.div (Ideal.ofBits .f32 0x00000000#32 + _) Row.width = _
  rw [Ideal.ofBits_zero_f32, zero_add]
  refine congrArg (fun s => Ideal.div s Row.width) (Finset.sum_congr rfl fun k _ => ?_)
  have he : idx_main_call0_v9 (idx_main_call0_v10 i) k = (ix3 (i 0) (i 1) k : S4x4096x1024.Idx) := funext fun a => by
    match a with
    | ⟨0, _⟩ => rfl
    | ⟨1, _⟩ => rfl
    | ⟨2, _⟩ => rfl
  rw [he, val_main_call0_v6_apply, val_main_call0_v5_apply, val_main_call0_v4_apply, mean_again, mean_apply]
  rfl

/-- The reference's normalisation before its scale and shift. -/
theorem norm_apply (x : FVec Ideal S4x4096x1024 .f32) (b : Fin 4) (l : Fin 4096) (k : Fin 1024) :
    val_main_v11 (F := Ideal) x (ix3 b l k) = Row.norm (row x b l) k := by
  rw [val_main_v11_apply, val_main_v6_apply, val_main_v5_apply, mean_apply, val_main_v10_apply, val_main_v9_apply,
    val_main_v8_apply, var_apply, val_main_v7_apply, val_main_cst_1_apply]
  rfl

/-- With scale one and shift zero a whole normalisation is the plain one. -/
theorem plain_apply (x : FVec Ideal S4x4096x1024 .f32) (g s : FVec Ideal S1024 .f32) (hg : ∀ k, g k = 1) (hs : ∀ k, s k = 0)
    (b : Fin 4) (l : Fin 4096) (k : Fin 1024) :
    val_main_v17 (F := Ideal) x g s (ix3 b l k) = Row.norm (row x b l) k := by
  rw [val_main_v17_apply, val_main_v14_apply, val_main_v13_apply, val_main_v12_apply, val_main_v16_apply, val_main_v15_apply,
    norm_apply, hg, hs]
  show Row.norm (row x b l) k * 1 + 0 = _
  rw [mul_one, add_zero]

/-- The second normalisation is the first one's function, of the first product. -/
theorem again (x0 : FVec Ideal S4x4096x1024 .f32) (x5 x6 : FVec Ideal S1024 .f32) (x7 : FVec Ideal S1024x1024 .f32)
    (x8 x9 x10 : FVec Ideal S1024 .f32) : val_main_v40 (F := Ideal) x0 x5 x6 x7 x8 x9 x10
      = val_main_v17 (F := Ideal) (val_main_v22 (F := Ideal) x0 x5 x6 x7 x8) x9 x10 := rfl

end Cert.Gate.Ref

end
-- ==== Proof.Gate.RefScore.lean ====
/-
  The reference's two scores of a token, read at an element.
-/
module

public import proofs.«01_k».proof.Proof.Gate.RefNorm
public import Idealize.ShloMosaic.Lib.IdealHost

@[expose] public section

noncomputable section

namespace Cert.Gate.Ref

open Cert.ReferenceIdeal Cert.ReferenceIdeal.Gen Cert.ReferenceIdeal.Read
open Idealize.ShloMosaic Idealize.ShloMosaic.TcCoe Idealize.SL.Sem Idealize.ShloMosaic.StableHlo

/-- The activation written with the complementary error function of the negated argument. -/
theorem act_erfc (z : EReal) : Row.half * z * Ideal.erfc (-z * Row.rootHalf) = Row.act z := by
  rw [EReal.neg_mul, Ideal.erfc_neg, mul_comm Row.half z]
  rfl

variable (x0 : FVec Ideal S4x4096x1024 .f32) (x5 x6 : FVec Ideal S1024 .f32) (x7 : FVec Ideal S1024x1024 .f32)
  (x8 x9 x10 : FVec Ideal S1024 .f32) (x11 : FVec Ideal S2x1024 .f32) (x12 : FVec Ideal S2 .f32)

/-- A matrix of rows as a function of row and column. -/
abbrev rows1 : Fin 1024 → Fin 1024 → EReal := fun q k => x7 (ix2 q k)
/-- The same of the two-row matrix. -/
abbrev rows2 : Fin 2 → Fin 1024 → EReal := fun q k => x11 (ix2 q k)

/-- The first product. -/
theorem first_apply (h5 : ∀ k, x5 k = 1) (h6 : ∀ k, x6 k = 0) (h8 : ∀ k, x8 k = 0) (b : Fin 4) (l : Fin 4096) (j : Fin 1024) :
    val_main_v22 (F := Ideal) x0 x5 x6 x7 x8 (ix3 b l j) = Row.lin (rows1 x7) (Row.norm (row x0 b l)) j := by
  rw [val_main_v22_apply, val_main_v19_apply, val_main_v21_apply, val_main_v20_apply, h8]
  show (∑ k : Fin 1024, _) + (0 : EReal) = ∑ k : Fin 1024, _
  rw [add_zero]
  refine Finset.sum_congr rfl fun k _ => ?_
  rw [val_main_v18_apply]
  have hl : lidx_main_v19 (ix3 b l j) k = (ix3 b l k : S4x4096x1024.Idx) := funext fun a => by
    match a with
    | ⟨0, _⟩ => rfl
    | ⟨1, _⟩ => rfl
    | ⟨2, _⟩ => rfl
  have hr : idx_main_v18 (ridx_main_v19 (ix3 b l j) k) = (ix2 j k : S1024x1024.Idx) := funext fun a => by
    match a with
    | ⟨0, _⟩ => rfl
    | ⟨1, _⟩ => rfl
  rw [hl, hr, plain_apply x0 x5 x6 h5 h6]

/-- The second normalisation. -/
theorem second_apply (h5 : ∀ k, x5 k = 1) (h6 : ∀ k, x6 k = 0) (h8 : ∀ k, x8 k = 0) (h9 : ∀ k, x9 k = 1)
    (h10 : ∀ k, x10 k = 0) (b : Fin 4) (l : Fin 4096) (k : Fin 1024) :
    val_main_v40 (F := Ideal) x0 x5 x6 x7 x8 x9 x10 (ix3 b l k)
      = Row.norm (Row.lin (rows1 x7) (Row.norm (row x0 b l))) k := by
  rw [again, plain_apply _ x9 x10 h9 h10]
  exact congrArg (fun f => Row.norm f k) (funext fun j => first_apply x0 x5 x6 x7 x8 h5 h6 h8 b l j)

/-- The activation. -/
theorem act_apply (i : S4x4096x1024.Idx) : val_main_v47 (F := Ideal) x0 x5 x6 x7 x8 x9 x10 i
    = Row.act (val_main_v40 (F := Ideal) x0 x5 x6 x7 x8 x9 x10 i) := by
  rw [val_main_v47_apply, val_main_v42_apply, val_main_v46_apply, val_main_v45_apply, val_main_v43_apply, val_main_v41_apply,
    val_main_v44_apply, val_main_cst_6_apply, val_main_cst_7_apply, ← act_erfc]
  rfl

/-- The scores. -/
theorem score_apply (h5 : ∀ k, x5 k = 1) (h6 : ∀ k, x6 k = 0) (h8 : ∀ k, x8 k = 0) (h9 : ∀ k, x9 k = 1)
    (h10 : ∀ k, x10 k = 0) (h12 : ∀ k, x12 k = 0) (b : Fin 4) (l : Fin 4096) (j : Fin 2) :
    val_main_v52 (F := Ideal) x0 x5 x6 x7 x8 x9 x10 x11 x12 (ix3 b l j) = Row.score (rows1 x7) (rows2 x11) (row x0 b l) j := by
  rw [val_main_v52_apply, val_main_v49_apply, val_main_v51_apply, val_main_v50_apply, h12]
  refine (add_zero (M := EReal) _).trans ?_
  unfold Row.score Row.lin
  refine Finset.sum_congr rfl fun k _ => ?_
  rw [val_main_v48_apply, act_apply]
  have hl : lidx_main_v49 (ix3 b l j) k = (ix3 b l k : S4x4096x1024.Idx) := funext fun a => by
    match a with
    | ⟨0, _⟩ => rfl
    | ⟨1, _⟩ => rfl
    | ⟨2, _⟩ => rfl
  have hr : idx_main_v48 (ridx_main_v49 (ix3 b l j) k) = (ix2 j k : S2x1024.Idx) := funext fun a => by
    match a with
    | ⟨0, _⟩ => rfl
    | ⟨1, _⟩ => rfl
  rw [hl, hr, second_apply x0 x5 x6 x7 x8 x9 x10 h5 h6 h8 h9 h10]
  rfl

end Cert.Gate.Ref

end
-- ==== Proof.Gate.RefGate.lean ====
/-
  The reference's mask: the bonus of the first token, the weights of the two scores and the threshold.
-/
module

public import proofs.«01_k».proof.Proof.Gate.RefScore
public import Idealize.ShloMosaic.Lib.Routing.OpsSet

@[expose] public section

noncomputable section

namespace Cert.Gate.Ref

open Cert.ReferenceIdeal Cert.ReferenceIdeal.Gen Cert.ReferenceIdeal.Read
open Idealize.ShloMosaic Idealize.ShloMosaic.TcCoe Idealize.SL.Sem Idealize.ShloMosaic.StableHlo

/-- The words that place the bonus are both zero. -/
theorem place_apply (j : S2.Idx) : val_main_v56 (F := Ideal) j = 0#32 := by
  unfold val_main_v56
  rw [concatenate_pair_apply]
  split
  · exact val_main_v54_apply _
  · exact val_main_v55_apply _

/-- Every window starts at the origin. -/
theorem start_zero (k : S4.Idx) (a : Fin 3) :
    scatter_S4x4096x2_S2_S4_0_12_12_0.start k (val_main_v56 (F := Ideal)) a = 0 := by
  unfold ScatterDims.start
  split
  · rw [place_apply]
    rfl
  · rfl

/-- Along the sequences a window has its own coordinate, -/
theorem window_first (k : S4.Idx) : scatter_S4x4096x2_S2_S4_0_12_12_0.window k 0 = (k 0).val := rfl
/-- along the tokens none, -/
theorem window_second (k : S4.Idx) : scatter_S4x4096x2_S2_S4_0_12_12_0.window k 1 = 0 := rfl
/-- nor along the two scores. -/
theorem window_third (k : S4.Idx) : scatter_S4x4096x2_S2_S4_0_12_12_0.window k 2 = 0 := rfl

/-- Where the bonus of a sequence lands. -/
theorem lands (k : S4.Idx) (i : S4x4096x2.Idx) :
    scatter_S4x4096x2_S2_S4_0_12_12_0.resultIdx? k (val_main_v56 (F := Ideal)) = some i
      ↔ (k 0).val = (i 0).val ∧ (i 1).val = 0 ∧ (i 2).val = 0 := by
  rw [Routing.resultIdx?_eq_some]
  constructor
  · intro h
    have h0 := h 0
    have h1 := h 1
    have h2 := h 2
    rw [start_zero] at h0 h1 h2
    rw [window_first] at h0
    rw [window_second] at h1
    rw [window_third] at h2
    omega
  · rintro ⟨h0, h1, h2⟩ a
    rw [start_zero]
    match a with
    | ⟨0, _⟩ => exact (zero_add _).trans (congrArg Int.ofNat ((window_first k).trans h0))
    | ⟨1, _⟩ => exact (zero_add _).trans (congrArg Int.ofNat ((window_second k).trans h1.symm))
    | ⟨2, _⟩ => exact (zero_add _).trans (congrArg Int.ofNat ((window_third k).trans h2.symm))

/-- The first score of a first token gets the bonus and nothing else does. -/
theorem bonus_apply (b : Fin 4) (l : Fin 4096) (j : Fin 2) :
    val_main_v58 (F := Ideal) (ix3 b l j) = Row.extra (l.val = 0 ∧ j.val = 0) := by
  unfold val_main_v58 Row.extra
  split
  · rename_i h
    refine Routing.scatter_set_hit _ _ _ _ _ _ (fun k _ => ?_) (ix1 b) ((lands _ _).2 ⟨rfl, h⟩)
    rw [val_main_v57_apply, val_main_cst_11_apply]
    rfl
  · rename_i h
    rw [Routing.scatter_set_miss _ _ _ _ _ (fun k e => h ((lands _ _).1 e).2), val_main_v53_apply, val_main_cst_8_apply]
    exact Ideal.ofBits_zero_f32

/-- A maximum taken over two places. -/
theorem max_two (f : Fin 2 → EReal) : (Finset.univ : Finset (Fin 2)).fold max ⊥ f = max (f 0) (f 1) := by
  simp [Fin.univ_succ]

/-- The reference's maximum over the two scores, of any array. -/
theorem reduce_two (y : FVec Ideal S4x4096x2 .f32) (b : Fin 4) (l : Fin 4096) :
    Host.reduce (max : EReal → EReal → EReal) y (val_main_cst_12 (F := Ideal)) reducesTo_S4x4096x2_S4x4096_d2 h_S_ (ix2 b l)
      = max (y (ix3 b l 0)) (y (ix3 b l 1)) := by
  have hr : S4x4096x2.Reduces [2] S4x4096 := by decide
  have e : ∀ j : Fin 2, hr.lift (ix2 b l) j = (ix3 b l j : S4x4096x2.Idx) := fun j => funext fun a => Fin.ext (by
    match a with
    | ⟨0, _⟩ => rfl
    | ⟨1, _⟩ => rfl
    | ⟨2, _⟩ => rfl)
  rw [Host.reduce_eq_fold_single (max : EReal → EReal → EReal) y _ reducesTo_S4x4096x2_S4x4096_d2 hr h_S_ (ix2 b l),
    val_main_cst_12_apply]
  have hb : (FloatOps.ofBits .f32 0xFF800000#32 : Ideal .f32) = (⊥ : EReal) := Row.lowest_eq
  rw [hb]
  refine (max_two (y ∘ hr.lift (ix2 b l))).trans ?_
  exact congrArg₂ max (congrArg y (e 0)) (congrArg y (e 1))

variable (x0 : FVec Ideal S4x4096x1024 .f32) (x5 x6 : FVec Ideal S1024 .f32) (x7 : FVec Ideal S1024x1024 .f32)
  (x8 x9 x10 : FVec Ideal S1024 .f32) (x11 : FVec Ideal S2x1024 .f32) (x12 : FVec Ideal S2 .f32)

/-- The two scores with the bonus. -/
abbrev total (b : Fin 4) (l : Fin 4096) (j : Fin 2) : EReal := val_main_v59 (F := Ideal) x0 x5 x6 x7 x8 x9 x10 x11 x12 (ix3 b l j)

/-- The greater of the two scores, as the reference takes it. -/
theorem top_apply (b : Fin 4) (l : Fin 4096) : val_main_v62 (F := Ideal) x0 x5 x6 x7 x8 x9 x10 x11 x12 (ix2 b l)
    = max (total x0 x5 x6 x7 x8 x9 x10 x11 x12 b l 0) (total x0 x5 x6 x7 x8 x9 x10 x11 x12 b l 1) := by
  rw [val_main_v62_apply, val_main_v61_apply, val_main_cst_13_apply]
  unfold val_main_v60 total
  generalize val_main_v59 (F := Ideal) x0 x5 x6 x7 x8 x9 x10 x11 x12 = y
  refine (congrArg₂ max Row.lowest_eq (reduce_two y b l)).trans ?_
  exact max_eq_right bot_le

/-- An exponentiated score. -/
theorem exp_apply (b : Fin 4) (l : Fin 4096) (j : Fin 2) : val_main_v66 (F := Ideal) x0 x5 x6 x7 x8 x9 x10 x11 x12 (ix3 b l j)
    = Ideal.exp (total x0 x5 x6 x7 x8 x9 x10 x11 x12 b l j
        - max (total x0 x5 x6 x7 x8 x9 x10 x11 x12 b l 0) (total x0 x5 x6 x7 x8 x9 x10 x11 x12 b l 1)) := by
  have e : idx_main_v63 (idx_main_v64 (ix3 b l j)) = (ix2 b l : S4x4096.Idx) := funext fun a => by
    match a with
    | ⟨0, _⟩ => rfl
    | ⟨1, _⟩ => rfl
  rw [val_main_v66_apply, val_main_v65_apply, val_main_v64_apply, val_main_v63_apply, e, top_apply]
  unfold total
  generalize val_main_v59 (F := Ideal) x0 x5 x6 x7 x8 x9 x10 x11 x12 = y
  rfl

/-- The weight of the first score. -/
theorem weight_apply (b : Fin 4) (l : Fin 4096) : val_main_v72 (F := Ideal) x0 x5 x6 x7 x8 x9 x10 x11 x12 (ix2 b l)
    = Row.keep (total x0 x5 x6 x7 x8 x9 x10 x11 x12 b l 0) (total x0 x5 x6 x7 x8 x9 x10 x11 x12 b l 1) := by
  have e : idx_main_v71 (idx_main_v72 (ix2 b l)) = (ix3 b l 0 : S4x4096x2.Idx) := funext fun a => Fin.ext (by
    have hb := b.isLt
    have hl := l.isLt
    match a with
    | ⟨0, _⟩ => show (b.val * 4096 + l.val) / 4096 = b.val; omega
    | ⟨1, _⟩ => show (b.val * 4096 + l.val) / 1 % 4096 = l.val; omega
    | ⟨2, _⟩ => rfl)
  have s : ∀ k : Fin 2, idx_main_v67 (idx_main_v68 (idx_main_v69 (ix3 b l 0))) k = (ix3 b l k : S4x4096x2.Idx) :=
    fun k => funext fun a => by
      match a with
      | ⟨0, _⟩ => rfl
      | ⟨1, _⟩ => rfl
      | ⟨2, _⟩ => rfl
  rw [val_main_v72_apply, val_main_v71_apply, e, val_main_v70_apply, exp_apply, val_main_v69_apply, val_main_v68_apply,
    val_main_v67_apply, Fin.sum_univ_two, s, s, exp_apply, exp_apply]
  show Ideal.div _ (Ideal.ofBits .f32 0x00000000#32 + _) = _
  rw [Ideal.ofBits_zero_f32, zero_add]
  rfl

/-- The reference's mask: the decision with the weight taken off and put back. -/
theorem mask_apply (b : Fin 4) (l : Fin 4096) (w : EReal)
    (hw : val_main_v72 (F := Ideal) x0 x5 x6 x7 x8 x9 x10 x11 x12 (ix2 b l) = w) :
    val_main_v77 (F := Ideal) x0 x5 x6 x7 x8 x9 x10 x11 x12 (ix2 b l) = (if Row.half ≤ w then 1 else 0) - w + w := by
  rw [val_main_v77_apply, val_main_v76_apply, val_main_v75_apply, val_main_v74_apply, val_main_v73_apply,
    val_main_cst_15_apply, hw]
  show (((BitVec.ofBool (decide (Row.half ≤ w))).toNat : ℝ) : EReal) - w + w = _
  by_cases h : Row.half ≤ w
  · rw [if_pos h, decide_eq_true h]
    simp
  · rw [if_neg h, decide_eq_false h]
    simp

end Cert.Gate.Ref

end
-- ==== Proof.Gate.Reals.lean ====
/-
  Every number of the gate but the matrices' own is a real, whatever the rows and the first matrix hold: a row with an
  infinity in it has an infinite variance, and a quotient by it is zero.
-/
module

public import proofs.«01_k».proof.Proof.Gate.Numbers

@[expose] public section

noncomputable section

namespace Cert.Gate.Row

open Idealize.ShloMosaic

/-- An extended real that is a real. -/
def Finite (x : EReal) : Prop := ∃ r : ℝ, x = (r : EReal)

/-- Sums of two reals are real, -/
theorem Finite.add {x y : EReal} : Finite x → Finite y → Finite (x + y) := by
  rintro ⟨a, rfl⟩ ⟨b, rfl⟩
  exact ⟨a + b, (EReal.coe_add a b).symm⟩

/-- so are differences, -/
theorem Finite.sub {x y : EReal} : Finite x → Finite y → Finite (x - y) := by
  rintro ⟨a, rfl⟩ ⟨b, rfl⟩
  exact ⟨a - b, (EReal.coe_sub a b).symm⟩

/-- products, -/
theorem Finite.mul {x y : EReal} : Finite x → Finite y → Finite (x * y) := by
  rintro ⟨a, rfl⟩ ⟨b, rfl⟩
  exact ⟨a * b, (EReal.coe_mul a b).symm⟩

/-- finite sums, -/
theorem Finite.sum {n : Nat} {f : Fin n → EReal} (h : ∀ k, Finite (f k)) : Finite (∑ k, f k) :=
  Finset.sum_induction f Finite (fun _ _ => Finite.add) ⟨0, EReal.coe_zero.symm⟩ fun k _ => h k

/-- and quotients by a positive real. -/
theorem Finite.div {x y : EReal} : Finite x → (∃ r : ℝ, 0 < r ∧ y = (r : EReal)) → Finite (Ideal.div x y) := by
  rintro ⟨a, rfl⟩ ⟨b, hb, rfl⟩
  unfold Ideal.div
  rw [if_neg (by exact_mod_cast hb.ne')]
  exact ⟨a * b⁻¹, by rw [EReal.coe_mul, EReal.coe_inv]⟩

/-- What is neither infinity is a real. -/
theorem finite_of_ne {x : EReal} (ht : x ≠ ⊤) (hb : x ≠ ⊥) : Finite x := ⟨x.toReal, (EReal.coe_toReal ht hb).symm⟩

/-- A square is not negative. -/
theorem square_nonneg (x : EReal) : 0 ≤ x * x := by
  induction x with
  | bot => simp
  | top => simp
  | coe r => exact_mod_cast mul_self_nonneg r

/-- A number whose square is not infinite is a real. -/
theorem finite_of_square {x : EReal} (h : x * x ≠ ⊤) : Finite x :=
  finite_of_ne (fun e => h (by rw [e, EReal.top_mul_top])) (fun e => h (by rw [e, EReal.bot_mul_bot]))

/-- A quotient by the row length is the product with a positive real. -/
theorem over_width (x : EReal) : Ideal.div x width = x * (((1024 : ℝ)⁻¹ : ℝ) : EReal) := by
  unfold Ideal.div
  rw [width_eq, if_neg (by exact_mod_cast (by norm_num : (1024 : ℝ) ≠ 0)), EReal.coe_inv]

/-- A normalised row holds reals only. -/
theorem norm_finite (f : Fin 1024 → EReal) (k : Fin 1024) : Finite (norm f k) := by
  unfold norm
  generalize hd : (fun q => f q - mean f) = d
  have hk : f k - mean f = d k := congrFun hd k
  have hv : (fun q => (f q - mean f) * (f q - mean f)) = fun q => d q * d q := by rw [← hd]
  rw [hk, hv]
  obtain ⟨e, he, hee⟩ := eps_eq
  have hs : 0 ≤ ∑ q, d q * d q := Finset.sum_nonneg fun q _ => square_nonneg (d q)
  by_cases ht : (∑ q, d q * d q) = ⊤
  · have hm : mean (fun q => d q * d q) = ⊤ := by
      unfold mean
      rw [over_width, ht, EReal.top_mul_coe_of_pos (by norm_num)]
    rw [hm, hee, EReal.top_add_coe]
    have hq : Ideal.div (d k) (Ideal.sqrt ⊤) = 0 := by
      show Ideal.div (d k) ⊤ = 0
      unfold Ideal.div
      rw [if_neg (by simp), EReal.inv_top, mul_zero]
    rw [hq]
    exact ⟨0, EReal.coe_zero.symm⟩
  · obtain ⟨s, hss⟩ := finite_of_ne ht (fun h => by rw [h] at hs; exact absurd hs (by simp))
    have hdk : Finite (d k) := finite_of_square fun h => ht (top_le_iff.1 (h ▸
      Finset.single_le_sum (f := fun q => d q * d q) (fun q _ => square_nonneg (d q)) (Finset.mem_univ k)))
    have hs0 : 0 ≤ s := by rw [hss] at hs; exact_mod_cast hs
    refine hdk.div ⟨Real.sqrt (s * (1024 : ℝ)⁻¹ + e), Real.sqrt_pos.2 (by positivity), ?_⟩
    unfold mean
    rw [over_width, hss, hee, ← EReal.coe_mul, ← EReal.coe_add]
    have hp : 0 ≤ s * (1024 : ℝ)⁻¹ + e := by positivity
    exact if_neg (not_lt.2 hp)

/-- The activation of a real is a real. -/
theorem act_finite {z : EReal} (h : Finite z) : Finite (act z) := by
  obtain ⟨e, he⟩ := rootHalf_eq
  obtain ⟨r, rfl⟩ := h
  unfold act
  refine Finite.mul (Finite.mul ⟨r, rfl⟩ ⟨_, half_eq⟩) (Finite.add ⟨1, EReal.coe_one.symm⟩ ?_)
  rw [he, ← EReal.coe_mul]
  exact ⟨_, rfl⟩

/-- With a finite second matrix the scores are real. -/
theorem score_finite (w1 : Fin 1024 → Fin 1024 → EReal) (w2 : Fin 2 → Fin 1024 → EReal) (f : Fin 1024 → EReal)
    (h : ∀ j k, Finite (w2 j k)) (j : Fin 2) : Finite (score w1 w2 f j) := by
  unfold score lin
  exact Finite.sum fun k => (act_finite (norm_finite _ _)).mul (h j k)

/-- What the first score has added is a real. -/
theorem extra_finite (p : Prop) [Decidable p] : Finite (extra p) := by
  unfold extra
  split
  · exact ⟨_, bonus_eq⟩
  · exact ⟨0, EReal.coe_zero.symm⟩

/-- The weight of two real scores is a real. -/
theorem keep_finite {a b : EReal} (ha : Finite a) (hb : Finite b) : Finite (keep a b) := by
  have hm : Finite (max a b) := by
    rcases max_choice a b with h | h <;> rw [h] <;> assumption
  obtain ⟨p, hp⟩ := ha.sub hm
  obtain ⟨q, hq⟩ := hb.sub hm
  unfold keep
  rw [hp, hq]
  exact Finite.div ⟨Real.exp p, rfl⟩ ⟨Real.exp p + Real.exp q, by positivity, (EReal.coe_add _ _).symm⟩

/-- A real taken off and put back changes nothing. -/
theorem put_back {w : EReal} (h : Finite w) (d : EReal) : d - w + w = d := by
  obtain ⟨r, rfl⟩ := h
  induction d with
  | bot => simp
  | top => simp
  | coe s => rw [← EReal.coe_sub, ← EReal.coe_add, sub_add_cancel]

end Cert.Gate.Row

end
-- ==== Proof.Gate.RefValue.lean ====
/-
  The reference's mask is the gate of every token's row when the ten affine rows are plain and the second matrix is finite.
-/
module

public import proofs.«01_k».proof.Proof.Gate.RefGate
public import proofs.«01_k».proof.Proof.Gate.Reals

@[expose] public section

noncomputable section

namespace Cert.Gate.Ref

open Cert.ReferenceIdeal Cert.ReferenceIdeal.Gen Cert.ReferenceIdeal.Read
open Idealize.ShloMosaic Idealize.ShloMosaic.TcCoe Idealize.SL.Sem Idealize.ShloMosaic.StableHlo

variable (x0 : FVec Ideal S4x4096x1024 .f32) (x5 x6 : FVec Ideal S1024 .f32) (x7 : FVec Ideal S1024x1024 .f32)
  (x8 x9 x10 : FVec Ideal S1024 .f32) (x11 : FVec Ideal S2x1024 .f32) (x12 : FVec Ideal S2 .f32)

/-- What the two programs have to be given to agree: scalings by one, shifts by zero, and a finite second matrix. -/
structure Plain : Prop where
  gain1 : ∀ k, x5 k = (1 : EReal)
  shift1 : ∀ k, x6 k = (0 : EReal)
  bias1 : ∀ k, x8 k = (0 : EReal)
  gain2 : ∀ k, x9 k = (1 : EReal)
  shift2 : ∀ k, x10 k = (0 : EReal)
  bias2 : ∀ k, x12 k = (0 : EReal)
  finite : ∀ k, Row.Finite (x11 k)

variable {x5 x6 x8 x9 x10 x11 x12}

/-- The scores the reference weighs: the row's scores, the first with the bonus of a first token. -/
theorem total_apply (h : Plain x5 x6 x8 x9 x10 x11 x12) (b : Fin 4) (l : Fin 4096) (j : Fin 2) :
    total x0 x5 x6 x7 x8 x9 x10 x11 x12 b l j
      = Row.score (rows1 x7) (rows2 x11) (row x0 b l) j + Row.extra (l.val = 0 ∧ j.val = 0) := by
  unfold total
  rw [val_main_v59_apply, score_apply x0 x5 x6 x7 x8 x9 x10 x11 x12 h.gain1 h.shift1 h.bias1 h.gain2 h.shift2 h.bias2,
    bonus_apply]
  rfl

/-- The first of them, -/
theorem total_first (h : Plain x5 x6 x8 x9 x10 x11 x12) (b : Fin 4) (l : Fin 4096) :
    total x0 x5 x6 x7 x8 x9 x10 x11 x12 b l 0
      = Row.score (rows1 x7) (rows2 x11) (row x0 b l) 0 + Row.extra (l.val = 0) := by
  rw [total_apply x0 x7 h]
  unfold Row.extra
  simp

/-- and the second, which has no bonus. -/
theorem total_second (h : Plain x5 x6 x8 x9 x10 x11 x12) (b : Fin 4) (l : Fin 4096) :
    total x0 x5 x6 x7 x8 x9 x10 x11 x12 b l 1 = Row.score (rows1 x7) (rows2 x11) (row x0 b l) 1 := by
  rw [total_apply x0 x7 h]
  unfold Row.extra
  simp

/-- The reference's mask is the gate: the weight it takes off and puts back is a real. -/
theorem mask_gate (h : Plain x5 x6 x8 x9 x10 x11 x12) (b : Fin 4) (l : Fin 4096) :
    val_main_v77 (F := Ideal) x0 x5 x6 x7 x8 x9 x10 x11 x12 (ix2 b l)
      = Row.gate (rows1 x7) (rows2 x11) (row x0 b l) (l.val = 0) := by
  have hs := fun j => Row.score_finite (rows1 x7) (rows2 x11) (row x0 b l) (fun q k => h.finite (ix2 q k)) j
  have hw : val_main_v72 (F := Ideal) x0 x5 x6 x7 x8 x9 x10 x11 x12 (ix2 b l) = _ :=
    (weight_apply x0 x5 x6 x7 x8 x9 x10 x11 x12 b l).trans
      (congrArg₂ Row.keep (total_first x0 x7 h b l) (total_second x0 x7 h b l))
  rw [mask_apply x0 x5 x6 x7 x8 x9 x10 x11 x12 b l _ hw,
    Row.put_back (Row.keep_finite ((hs 0).add (Row.extra_finite _)) (hs 1))]
  rfl

/-- The same of the whole array. -/
theorem mask_gates (h : Plain x5 x6 x8 x9 x10 x11 x12) :
    val_main_v77 (F := Ideal) x0 x5 x6 x7 x8 x9 x10 x11 x12
      = fun i => Row.gate (rows1 x7) (rows2 x11) (row x0 (i 0) (i 1)) ((i 1).val = 0) := by
  funext i
  have e : i = (ix2 (i 0) (i 1) : S4x4096.Idx) := funext fun a => by
    match a with
    | ⟨0, _⟩ => rfl
    | ⟨1, _⟩ => rfl
  exact (congrArg _ e).trans (mask_gate x0 x7 h (i 0) (i 1))

end Cert.Gate.Ref

end
-- ==== Proof.Gate.Given.lean ====
/-
  What the claims' precondition says of the arguments, as equations between extended reals.
-/
module

public import proofs.«01_k».proof.Pre_plain_affine
public import proofs.«01_k».proof.Proof.Gate.RefValue

@[expose] public section

noncomputable section

namespace Cert.Gate.Given

open Idealize.ShloMosaic Cert.Pre_plain_affine

/-- The precondition's constants may be spread over its arrays. -/
theorem facts : Cert.Pre_plain_affine.Facts where
  bcast_S_S1024 := by decide
  bcast_S_S2 := by decide
  bcast_S_S2x1024 := by decide

/-- A comparison for equality that came out true is an equality. -/
theorem eq_of_cmpf {x y : Ideal .f32} (h : (FloatOps.cmpf .oeq x y : BitVec 1) = 1#1) : (x : EReal) = y := by
  by_contra hn
  have h' : BitVec.ofBool (decide ((x : EReal) = y)) = 1#1 := h
  rw [decide_eq_false hn] at h'
  exact absurd h' (by decide)

/-- A number whose magnitude compared less than infinity is a real. -/
theorem finite_of_cmpf {x : Ideal .f32}
    (h : (FloatOps.cmpf .olt (FloatOps.hostAbsf x) (FloatOps.ofBits .f32 0x7F800000#32) : BitVec 1) = 1#1) :
    Row.Finite x := by
  change EReal at x
  have h' : BitVec.ofBool (decide (max x (-x) < Ideal.ofBits .f32 0x7F800000#32)) = 1#1 := h
  rw [Row.highest_eq] at h'
  by_cases hl : max x (-x) < (⊤ : EReal)
  · refine Row.finite_of_ne (fun e => ?_) (fun e => ?_)
    · rw [e] at hl
      simp at hl
    · rw [e] at hl
      simp at hl
  · rw [decide_eq_false hl] at h'
    exact absurd h' (by decide)

attribute [local instance] facts

/-- The precondition, all ones, says the affine rows are plain and the second matrix finite. -/
theorem plain {x0 : FVec Ideal S4x4096x1024 .f32} {x1 : FVec Ideal S4x1x1x4096 .f32} {x2 : FVec Ideal S4x4096 .f32}
    {x3 : FVec Ideal S4x16x4096x64 .f32} {x4 : FVec Ideal S4x4096x1 .f32} {x5 x6 : FVec Ideal S1024 .f32}
    {x7 : FVec Ideal S1024x1024 .f32} {x8 x9 x10 : FVec Ideal S1024 .f32} {x11 : FVec Ideal S2x1024 .f32}
    {x12 : FVec Ideal S2 .f32}
    (h : (fn (F := Ideal) x0 x1 x2 x3 x4 x5 x6 x7 x8 x9 x10 x11 x12).1 = (fun _ => 1#1)
      ∧ (fn (F := Ideal) x0 x1 x2 x3 x4 x5 x6 x7 x8 x9 x10 x11 x12).2.1 = (fun _ => 1#1)
      ∧ (fn (F := Ideal) x0 x1 x2 x3 x4 x5 x6 x7 x8 x9 x10 x11 x12).2.2.1 = (fun _ => 1#1)
      ∧ (fn (F := Ideal) x0 x1 x2 x3 x4 x5 x6 x7 x8 x9 x10 x11 x12).2.2.2.1 = (fun _ => 1#1)
      ∧ (fn (F := Ideal) x0 x1 x2 x3 x4 x5 x6 x7 x8 x9 x10 x11 x12).2.2.2.2.1 = (fun _ => 1#1)
      ∧ (fn (F := Ideal) x0 x1 x2 x3 x4 x5 x6 x7 x8 x9 x10 x11 x12).2.2.2.2.2.1 = (fun _ => 1#1)
      ∧ (fn (F := Ideal) x0 x1 x2 x3 x4 x5 x6 x7 x8 x9 x10 x11 x12).2.2.2.2.2.2 = (fun _ => 1#1)) :
    Ref.Plain x5 x6 x8 x9 x10 x11 x12 := by
  obtain ⟨h5, h6, h8, h9, h10, h12, h11⟩ := h
  exact {
    gain1 := fun k => (eq_of_cmpf (congrFun h5 k)).trans Ideal.ofBits_one_f32
    shift1 := fun k => (eq_of_cmpf (congrFun h6 k)).trans Ideal.ofBits_zero_f32
    bias1 := fun k => (eq_of_cmpf (congrFun h8 k)).trans Ideal.ofBits_zero_f32
    gain2 := fun k => (eq_of_cmpf (congrFun h9 k)).trans Ideal.ofBits_one_f32
    shift2 := fun k => (eq_of_cmpf (congrFun h10 k)).trans Ideal.ofBits_zero_f32
    bias2 := fun k => (eq_of_cmpf (congrFun h12 k)).trans Ideal.ofBits_zero_f32
    finite := fun k => finite_of_cmpf (congrFun h11 k) }

end Cert.Gate.Given

end
-- ==== Proof.lean ====
/- The claims: the kernel's program and the reference run to the end with their arguments unchanged and every counter at
   zero, the program read at extended reals is the program as printed, and under the precondition the two end with equal
   results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gate.Word
public import proofs.«01_k».proof.Proof.Gate.Final
public import proofs.«01_k».proof.Proof.Gate.Given

@[expose] public section

noncomputable section

namespace Cert.Proof

open Idealize.ShloMosaic Idealize.ShloMosaic.TcCoe Idealize.SL.Sem

/-- The program as printed runs, its arguments unchanged and every counter at zero: it is the other printing's program. -/
theorem frame_kernel : Cert.quiescent_Kernel (hKernel := Cert.Kernel.Gen.facts) := fun m ρ _ => by
  rw [Cert.Gate.defs_eq, Cert.Gate.main_eq]
  exact Cert.Gate.frame m ρ

/-- So does the program read at extended reals. -/
theorem frame_ideal : Cert.quiescent_KernelIdeal (hKernelIdeal := Cert.KernelIdeal.Gen.facts) := fun m ρ _ =>
  Cert.Gate.frame m ρ

/-- The reference has no kernel and no counter: its run is its lines' run. -/
theorem frame_reference : Cert.quiescent_ReferenceIdeal (hReferenceIdeal := Cert.ReferenceIdeal.Gen.facts) := fun m ρ _ =>
  (θ_run _ _ _).mono (fun _ h => ⟨fun c => (h c).2.2.2.2, sem_eq_zero_of_no_sems (by decide) _⟩)
    (Cert.ReferenceIdeal.Value.run m ρ)

/-- What the reference's run leaves in its mask, when the affine rows are plain and the second matrix is finite: the gates
    of its arguments. -/
theorem mask_value (m : (ℓ : Loc Cert.ReferenceIdeal.nD Cert.ReferenceIdeal.τ Cert.ReferenceIdeal.sig) → Buf (Elt Ideal) ℓ)
    (c : Dev Cert.ReferenceIdeal.nD)
    (h : Cert.Gate.Ref.Plain
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))) :
    Cert.ReferenceIdeal.Read.val_main_v77 (F := Ideal)
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg8))
      (m ((c.tc : Thread Cert.ReferenceIdeal.nD Cert.ReferenceIdeal.τ).loc Cert.ReferenceIdeal.main_arg9))
      (m ((c.tc : Thread Cert.ReferenceIdeal.nD Cert.ReferenceIdeal.τ).loc Cert.ReferenceIdeal.main_arg10))
      (m ((c.tc : Thread Cert.ReferenceIdeal.nD Cert.ReferenceIdeal.τ).loc Cert.ReferenceIdeal.main_arg11))
      (m ((c.tc : Thread Cert.ReferenceIdeal.nD Cert.ReferenceIdeal.τ).loc Cert.ReferenceIdeal.main_arg12))
    = Cert.Gate.gates
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg7))
      (m ((c.tc : Thread Cert.ReferenceIdeal.nD Cert.ReferenceIdeal.τ).loc Cert.ReferenceIdeal.main_arg11)) :=
  Cert.Gate.Ref.mask_gates _ _ h

/-- From memories that agree on the arguments and satisfy the precondition, the two programs end with equal results: the
    two arguments handed on, the ones, and the gates. -/
theorem values : Cert.algebraic_KernelIdeal_ReferenceIdeal_pre_plain_affine (hKernelIdeal := Cert.KernelIdeal.Gen.facts)
    (hReferenceIdeal := Cert.ReferenceIdeal.Gen.facts) (hPre_plain_affine := Cert.Gate.Given.facts) := by
  intro m ρ m' ρ' hp ha
  refine ⟨fun c => m ((c.tc : Thread _ _).loc Cert.KernelIdeal.main_arg0),
    fun c => m ((c.tc : Thread _ _).loc Cert.KernelIdeal.main_arg1), fun c => Cert.ReferenceIdeal.Read.val_main_v78 (F := Ideal),
    fun c => Cert.Gate.gates (m ((c.tc : Thread _ _).loc Cert.KernelIdeal.main_arg0))
      (m ((c.tc : Thread _ _).loc Cert.KernelIdeal.main_arg7)) (m ((c.tc : Thread _ _).loc Cert.KernelIdeal.main_arg11)),
    (θ_run _ _ _).mono (fun r h c => ⟨(h.1.1 c).1, (h.1.1 c).2.1, (h.2 c).1, (h.2 c).2, h.1.1 c⟩)
      (θ_run_and (Cert.Gate.frame m ρ) (Cert.Gate.run_values m ρ)),
    (θ_run _ _ _).mono (fun r h c => ?_) (Cert.ReferenceIdeal.Value.run m' ρ')⟩
  obtain ⟨h0, h1, h2, h3, hr⟩ := h c
  obtain ⟨a0, a1, a2, a3, a4, a5, a6, a7, a8, a9, a10, a11, a12⟩ := ha c
  have hq := Cert.Gate.Given.plain (hp c)
  rw [← a5, ← a6, ← a8, ← a9, ← a10, ← a11, ← a12] at hq
  refine ⟨h0.trans a0, h1.trans a1, h2, ?_, hr⟩
  refine h3.trans ((Cert.ReferenceIdeal.Read.val_main_v77_eq _).trans ((mask_value m' c hq).trans ?_))
  rw [a0, a7, a11]

/-- Everything claimed. -/
theorem claim : Cert.Claim := ⟨Cert.Kernel.Gen.facts, Cert.KernelIdeal.Gen.facts, Cert.ReferenceIdeal.Gen.facts,
  Cert.Gate.Given.facts, frame_kernel, frame_ideal, fun m ρ _ => frame_ideal m ρ trivial, frame_reference,
  fun m ρ _ => frame_reference m ρ trivial, trivial, values⟩

end Cert.Proof

end
